-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cut_untied [hPre_cut_untied : Cert.Pre_cut_untied.Facts] (m : (ℓ : Loc Cert.KernelIdeal.nD Cert.KernelIdeal.τ Cert.KernelIdeal.sig) → Buf (Elt Ideal) ℓ) : Prop :=
  ∀ c : Dev Cert.KernelIdeal.nD,
    (Cert.Pre_cut_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cut_untied [hPre_cut_untied : Cert.Pre_cut_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cut_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_cut_untied [hKernelIdeal : Cert.KernelIdeal.Facts] [hPre_cut_untied : Cert.Pre_cut_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cut_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_cut_untied [hReferenceIdeal : Cert.ReferenceIdeal.Facts] [hPre_cut_untied : Cert.Pre_cut_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cut_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_cut_untied [hKernelIdeal : Cert.KernelIdeal.Facts] [hReferenceIdeal : Cert.ReferenceIdeal.Facts] [hPre_cut_untied : Cert.Pre_cut_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cut_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_cut_untied : Cert.Pre_cut_untied.Facts),
    quiescent_Kernel (hKernel := hKernel)
    ∧ quiescent_KernelIdeal (hKernelIdeal := hKernelIdeal)
    ∧ quiescent_KernelIdeal_pre_cut_untied (hKernelIdeal := hKernelIdeal) (hPre_cut_untied := hPre_cut_untied)
    ∧ quiescent_ReferenceIdeal (hReferenceIdeal := hReferenceIdeal)
    ∧ quiescent_ReferenceIdeal_pre_cut_untied (hReferenceIdeal := hReferenceIdeal) (hPre_cut_untied := hPre_cut_untied)
    ∧ preserves_Kernel_KernelIdeal
    ∧ algebraic_KernelIdeal_ReferenceIdeal_pre_cut_untied (hKernelIdeal := hKernelIdeal) (hReferenceIdeal := hReferenceIdeal) (hPre_cut_untied := hPre_cut_untied)
-- ==== Pre_cut_untied.lean ====
abbrev S128x32768 : Shape := ⟨2, ![128, 32768]⟩
abbrev S_ : Shape := ⟨0, ![]⟩
abbrev S128x32767 : Shape := ⟨2, ![128, 32767]⟩
abbrev S128x1 : Shape := ⟨2, ![128, 1]⟩
abbrev S128 : Shape := ⟨1, ![128]⟩

class Facts : Prop where
  bcast_S_S128x32768 : S_.BroadcastsInDim S128x32768 (![] : Fin 0 → Fin S128x32768.rank)
  slices_S128x32768_S128x32767_0_1 : S128x32768.Slices ![0, 1] S128x32767
  slices_S128x32768_S128x1_0_0 : S128x32768.Slices ![0, 0] S128x1
  concatenates_S128x32767_S128x1_S128x32768_d1 : Shape.Concatenates [S128x32767, S128x1] S128x32768 1
  natLt_1_32 : 1 < 32
  reducesTo_S128x32768_S128_d1 : S128x32768.ReducesTo [1] S128
  h_S_ : 0 < S_.numel
  bcast_S_S128 : S_.BroadcastsInDim S128 (![] : Fin 0 → Fin S128.rank)
  bcast_S128_S128x32768_0 : S128.BroadcastsInDim S128x32768 (![0] : Fin 1 → Fin S128x32768.rank)

variable [Facts]

variable {F : FTy → Type} [FloatOps F]
def comparator_f32_d1 : F .f32 → F .f32 → BitVec 1 :=
  fun l r =>
    let cst_8 := FloatOps.ofBits .f32 0x00000000#32
    let v36 := FloatOps.cmpf .oeq l cst_8
    let cst_9 := FloatOps.ofBits .f32 0x00000000#32
    let v37 := Scalar.select v36 cst_9 l
    let v38 := FloatOps.cmpf .une l l
    let cst_10 := FloatOps.ofBits .f32 0x7FC00000#32
    let v39 := Scalar.select v38 cst_10 v37
    let cst_11 := FloatOps.ofBits .f32 0x00000000#32
    let v40 := FloatOps.cmpf .oeq r cst_11
    let cst_12 := FloatOps.ofBits .f32 0x00000000#32
    let v41 := Scalar.select v40 cst_12 r
    let v42 := FloatOps.cmpf .une r r
    let cst_13 := FloatOps.ofBits .f32 0x7FC00000#32
    let v43 := Scalar.select v42 cst_13 v41
    let v44 := FloatOps.cmpfTotal .lt v39 v43
    v44

def fn_part1 {F : FTy → Type} [FloatOps F] (main_v4 : IVec S128x32768 1) (main_v10 : IVec S128x32768 1) (main_v15 : FVec F S128x32768 .f32) (main_v18 : FVec F S128x32768 .f32) : IVec S128x32768 1 :=
  let main_v19 : IVec S128x32768 32 := (extui 32 · natLt_1_32) main_v10
  let main_c : IVec S_ 32 := constantI S_ 32 0#32
  let main_v20 : IVec S128 32 := (fun x v => Host.reduce IntOp.addi x v reducesTo_S128x32768_S128_d1 h_S_) main_v19 main_c
  let main_c_4 : IVec S_ 32 := constantI S_ 32 10#32
  let main_v21 : IVec S128 32 := broadcastInDim S128 ![] bcast_S_S128 main_c_4
  let main_v22 : IVec S128 32 := muli main_v20 main_v21
  let main_c_5 : IVec S_ 32 := constantI S_ 32 32768#32
  let main_v23 : IVec S128 32 := broadcastInDim S128 ![] bcast_S_S128 main_c_5
  let main_v24 : IVec S128 32 := subi main_v23 main_v20
  let main_v25 : IVec S128 32 := minsi main_v22 main_v24
  let main_v26 : IVec S128x32768 32 := iotaInDim S128x32768 32 1
  let main_c_6 : IVec S_ 32 := constantI S_ 32 1#32
  let main_v27 : IVec S128x32768 32 := broadcastInDim S128x32768 ![] bcast_S_S128x32768 main_c_6
  let main_v28 : IVec S128x32768 32 := addi main_v26 main_v27
  let main_v29 : IVec S128x32768 32 := broadcastInDim S128x32768 ![0] bcast_S128_S128x32768_0 main_v25
  let main_v30 : IVec S128x32768 1 := cmpi .ne main_v28 main_v29
  let main_cst_7 : FVec F S_ .f32 := constant S_ .f32 0x3F7FFFFF#32
  let main_v31 : FVec F S128x32768 .f32 := broadcastInDim S128x32768 ![] bcast_S_S128x32768 main_cst_7
  let main_v32 : FVec F S128x32768 .f32 := mulf main_v15 main_v31
  let main_v33 : IVec S128x32768 1 := cmpf .ole main_v18 main_v32
  let main_v34 : IVec S128x32768 1 := ori main_v30 main_v33
  let main_v35 : IVec S128x32768 1 := andi main_v4 main_v34
  main_v35

def fn {F : FTy → Type} [FloatOps F] (main_arg0 : FVec F S128x32768 .f32) (main_arg1 : FVec F S128x32768 .f32) : IVec S128x32768 1 :=
  let main_cst : FVec F S_ .f32 := constant S_ .f32 0x00000000#32
  let main_v0 : FVec F S128x32768 .f32 := broadcastInDim S128x32768 ![] bcast_S_S128x32768 main_cst
  let main_cst_0 : FVec F S_ .f32 := constant S_ .f32 0x3F800000#32
  let main_v1 : FVec F S128x32768 .f32 := broadcastInDim S128x32768 ![] bcast_S_S128x32768 main_cst_0
  let main_v2 : IVec S128x32768 1 := cmpf .oeq main_arg1 main_v0
  let main_v3 : IVec S128x32768 1 := cmpf .oeq main_arg1 main_v1
  let main_v4 : IVec S128x32768 1 := ori main_v2 main_v3
  let main_cst_1 : FVec F S_ .f32 := constant S_ .f32 0x358637BD#32
  let main_v5 : FVec F S128x32768 .f32 := broadcastInDim S128x32768 ![] bcast_S_S128x32768 main_cst_1
  let main_v6 : FVec F S128x32768 .f32 := maximumf main_arg0 main_v5
  let main_v7 : FVec F S128x32768 .f32 := subf main_v1 main_v5
  let main_v8 : FVec F S128x32768 .f32 := minimumf main_v6 main_v7
  let main_cst_2 : FVec F S_ .f32 := constant S_ .f32 0x3F000000#32
  let main_v9 : FVec F S128x32768 .f32 := broadcastInDim S128x32768 ![] bcast_S_S128x32768 main_cst_2
  let main_v10 : IVec S128x32768 1 := cmpf .oge main_arg1 main_v9
  let main_cst_3 : FVec F S_ .f32 := constant S_ .f32 0xBF800000#32
  let main_v11 : FVec F S128x32768 .f32 := broadcastInDim S128x32768 ![] bcast_S_S128x32768 main_cst_3
  let main_v12 : FVec F S128x32768 .f32 := select main_v10 main_v11 main_v8
  let main_v13 : FVec F S128x32768 .f32 := Host.negf main_v12
  let main_v14 : FVec F S128x32768 .f32 := (fun x => Host.sort S128x32768 1 comparator_f32_d1 x) main_v13
  let main_v15 : FVec F S128x32768 .f32 := Host.negf main_v14
  let main_v16 : FVec F S128x32767 .f32 := (extractStridedSlice S128x32767 ![0, 1] · slices_S128x32768_S128x32767_0_1) main_v15
  let main_v17 : FVec F S128x1 .f32 := (extractStridedSlice S128x1 ![0, 0] · slices_S128x32768_S128x1_0_0) main_v15
  let main_v18 : FVec F S128x32768 .f32 := (fun a b => concatenate S128x32768 1 [⟨S128x32767, a⟩, ⟨S128x1, b⟩] concatenates_S128x32767_S128x1_S128x32768_d1) main_v16 main_v17
  fn_part1 (F := F) main_v4 main_v10 main_v15 main_v18
-- ==== Kernel.lean ====
abbrev S128x32768 : Shape := ⟨2, ![128, 32768]⟩
abbrev S1x1 : Shape := ⟨2, ![1, 1]⟩
abbrev S32x32768 : Shape := ⟨2, ![32, 32768]⟩
abbrev S32x1 : Shape := ⟨2, ![32, 1]⟩
abbrev S32x512 : Shape := ⟨2, ![32, 512]⟩
abbrev S32 : Shape := ⟨1, ![32]⟩
abbrev S1x32x1 : Shape := ⟨3, ![1, 32, 1]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S1x1, .f32⟩
  | .hbm, ⟨3, _⟩ => ⟨S_, .f32⟩
  | .local _ .vmem, ⟨0, _⟩ => ⟨S32x32768, .f32⟩
  | .local _ .vmem, ⟨1, _⟩ => ⟨S32x32768, .f32⟩
  | .local _ .vmem, ⟨2, _⟩ => ⟨S32x32768, .f32⟩
  | .local _ .vmem, ⟨3, _⟩ => ⟨S32x32768, .f32⟩
  | .local _ .vmem, ⟨4, _⟩ => ⟨S1x1, .f32⟩
  | .local _ .vmem, ⟨5, _⟩ => ⟨S32x1, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_489 : BitVec 32 := 0#32
  let c31_i32 : BitVec 32 := 31#32
  let v1372 : BitVec 32 := Scalar.addi c0_i32_489 c31_i32
  let c1_i32 : BitVec 32 := 1#32
  ⟨c0_i32_489, v1372, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S128x32768 : Shape := ⟨2, ![128, 32768]⟩
abbrev S_ : Shape := ⟨0, ![]⟩
abbrev S128 : Shape := ⟨1, ![128]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 143
  | .vmem => 0
  | .smem => 0
  | _ => 0

abbrev hbmTy0_0 (i : Nat) : BufTy := match i % 128 with
  | 0 => ⟨S128x32768, .f32⟩
  | 1 => ⟨S128x32768, .f32⟩
  | 2 => ⟨S_, .f32⟩
  | 3 => ⟨S_, .f32⟩
  | 4 => ⟨S_, .f32⟩
  | 5 => ⟨S_, .f32⟩
  | 6 => ⟨S_, .f32⟩
  | 7 => ⟨S128x32768, .f32⟩
  | 8 => ⟨S128x32768, .f32⟩
  | 9 => ⟨S128x32768, .f32⟩
  | 10 => ⟨S128x32768, .f32⟩
  | 11 => ⟨S_, .f32⟩
  | 12 => ⟨S128x32768, .f32⟩
  | 13 => ⟨S128x32768, .f32⟩
  | 14 => ⟨S128x32768, .f32⟩
  | 15 => ⟨S128x32768, .f32⟩
  | 16 => ⟨S_, .f32⟩
  | 17 => ⟨S128x32768, .f32⟩
  | 18 => ⟨S128x32768, .f32⟩
  | 19 => ⟨S_, .f32⟩
  | 20 => ⟨S128x32768, .f32⟩
  | 21 => ⟨S128x32768, .f32⟩
  | 22 => ⟨S128x32768, .f32⟩
  | 23 => ⟨S128x32768, .f32⟩
  | 24 => ⟨S128x32768, .f32⟩
  | 25 => ⟨S128x32768, .f32⟩
  | 26 => ⟨S_, .f32⟩
  | 27 => ⟨S128x32768, .f32⟩
  | 28 => ⟨S128x32768, .i1⟩
  | 29 => ⟨S_, .f32⟩
  | 30 => ⟨S128x32768, .f32⟩
  | 31 => ⟨S128x32768, .f32⟩
  | 32 => ⟨S128x32768, .f32⟩
  | 33 => ⟨S_, .f32⟩
  | 34 => ⟨S128x32768, .f32⟩
  | 35 => ⟨S128x32768, .i1⟩
  | 36 => ⟨S_, .f32⟩
  | 37 => ⟨S128x32768, .f32⟩
  | 38 => ⟨S_, .f32⟩
  | 39 => ⟨S128x32768, .f32⟩
  | 40 => ⟨S128x32768, .f32⟩
  | 41 => ⟨S_, .f32⟩
  | 42 => ⟨S128x32768, .f32⟩
  | 43 => ⟨S128x32768, .f32⟩
  | 44 => ⟨S_, .f32⟩
  | 45 => ⟨S128x32768, .f32⟩
  | 46 => ⟨S128x32768, .f32⟩
  | 47 => ⟨S128x32768, .f32⟩
  | 48 => ⟨S128x32768, .f32⟩
  | 49 => ⟨S_, .f32⟩
  | 50 => ⟨S128x32768, .f32⟩
  | 51 => ⟨S128x32768, .i1⟩
  | 52 => ⟨S128x32768, .i1⟩
  | 53 => ⟨S128x32768, .i32⟩
  | 54 => ⟨S_, .i32⟩
  | 55 => ⟨S128, .i32⟩
  | 56 => ⟨S128x32768, .i32⟩
  | 57 => ⟨S_, .i32⟩
  | 58 => ⟨S128, .i32⟩
  | 59 => ⟨S_, .i32⟩
  | 60 => ⟨S128, .i32⟩
  | 61 => ⟨S128, .i32⟩
  | 62 => ⟨S128, .i32⟩
  | 63 => ⟨S_, .f32⟩
  | 64 => ⟨S128x32768, .f32⟩
  | 65 => ⟨S128x32768, .f32⟩
  | 66 => ⟨S128x32768, .f32⟩
  | 67 => ⟨S128x32768, .f32⟩
  | 68 => ⟨S128x32768, .f32⟩
  | 69 => ⟨S_, .f32⟩
  | 70 => ⟨S_, .f32⟩
  | 71 => ⟨S128x32768, .f32⟩
  | 72 => ⟨S_, .i32⟩
  | 73 => ⟨S128, .i32⟩
  | 74 => ⟨S128, .i32⟩
  | 75 => ⟨S_, .i32⟩
  | 76 => ⟨S_, .i32⟩
  | 77 => ⟨S_, .i32⟩
  | 78 => ⟨S128, .i32⟩
  | 79 => ⟨S128, .i32⟩
  | 80 => ⟨S_, .i32⟩
  | 81 => ⟨S128, .i32⟩
  | 82 => ⟨S128, .i32⟩
  | 83 => ⟨S128x1, .i32⟩
  | 84 => ⟨S_, .i32⟩
  | 85 => ⟨S128x1, .i32⟩
  | 86 => ⟨S128x1, .i1⟩
  | 87 => ⟨S_, .i32⟩
  | 88 => ⟨S128x1, .i32⟩
  | 89 => ⟨S128x1, .i32⟩
  | 90 => ⟨S128x1, .i32⟩
  | 91 => ⟨S128x1x1, .i32⟩
  | 92 => ⟨S1, .i32⟩
  | 93 => ⟨S_, .i32⟩
  | 94 => ⟨S128x1x1, .i32⟩
  | 95 => ⟨S128x1x1, .i1⟩
  | 96 => ⟨S1x1x1, .i32⟩
  | 97 => ⟨S128x1x1, .i32⟩
  | 98 => ⟨S128x1x1, .i1⟩
  | 99 => ⟨S128x1x1, .i1⟩
  | 100 => ⟨S_, .i1⟩
  | 101 => ⟨S128x1, .i1⟩
  | 102 => ⟨S128x1, .f32⟩
  | 103 => ⟨S_, .f32⟩
  | 104 => ⟨S128x1, .f32⟩
  | 105 => ⟨S128x1, .f32⟩
  | 106 => ⟨S128, .f32⟩
  | 107 => ⟨S_, .i32⟩
  | 108 => ⟨S128, .i32⟩
  | 109 => ⟨S128, .i1⟩
  | 110 => ⟨S_, .f32⟩
  | 111 => ⟨S128, .f32⟩
  | 112 => ⟨S128, .f32⟩
  | 113 => ⟨S_, .f32⟩
  | 114 => ⟨S128x32768, .f32⟩
  | 115 => ⟨S128x32768, .f32⟩
  | 116 => ⟨S_, .f32⟩
  | 117 => ⟨S128, .f32⟩
  | 118 => ⟨S128, .i32⟩
  | 119 => ⟨S128, .f32⟩
  | 120 => ⟨S128, .f32⟩
  | 121 => ⟨S_, .f32⟩
  | 122 => ⟨S128, .f32⟩
  | 123 => ⟨S128, .f32⟩
  | 124 => ⟨S128, .f32⟩
  | 125 => ⟨S_, .f32⟩
  | 126 => ⟨S128x32768, .f32⟩
  | 127 => ⟨S128x32768, .f32⟩
  | _ => ⟨S128x32768, .f32⟩

abbrev hbmTy0_1 (i : Nat) : BufTy := match i % 128 with
  | 0 => ⟨S_, .f32⟩
  | 1 => ⟨S128, .f32⟩
  | 2 => ⟨S128, .f32⟩
  | 3 => ⟨S_, .f32⟩
  | 4 => ⟨S128, .f32⟩
  | 5 => ⟨S128, .f32⟩
  | 6 => ⟨S128, .f32⟩
  | 7 => ⟨S_, .i32⟩
  | 8 => ⟨S128, .i32⟩
  | 9 => ⟨S128, .i1⟩
  | 10 => ⟨S128, .f32⟩
  | 11 => ⟨S_, .f32⟩
  | 12 => ⟨S_, .f32⟩
  | 13 => ⟨S_, .f32⟩
  | 14 => ⟨S_, .f32⟩
  | _ => ⟨S128x32768, .f32⟩

abbrev hbmTy (i : Nat) : BufTy := match i / 128 with
  | 0 => hbmTy0_0 i
  | 1 => hbmTy0_1 i
  | _ => ⟨S128x32768, .f32⟩

abbrev bufTy : (tb : Table) → Fin (tcTables nBuf tb) → BufTy
  | .hbm, ⟨i, _⟩ => hbmTy i
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v1 : Ref sig .tc := ⟨.hbm, 10, rfl⟩
abbrev main_cst_2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_cst_8 : Ref sig .tc := ⟨.hbm, 36, rfl⟩
abbrev main_v21 : Ref sig .tc := ⟨.hbm, 37, rfl⟩
abbrev main_cst_9 : Ref sig .tc := ⟨.hbm, 38, rfl⟩
abbrev main_v22 : Ref sig .tc := ⟨.hbm, 39, rfl⟩
abbrev main_v23 : Ref sig .tc := ⟨.hbm, 40, rfl⟩
abbrev main_cst_10 : Ref sig .tc := ⟨.hbm, 41, rfl⟩
abbrev main_v24 : Ref sig .tc := ⟨.hbm, 42, rfl⟩
abbrev main_v25 : Ref sig .tc := ⟨.hbm, 43, rfl⟩
abbrev main_cst_11 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_12 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c : Ref sig .tc := ⟨.hbm, 54, rfl⟩
abbrev main_v34 : Ref sig .tc := ⟨.hbm, 55, rfl⟩
abbrev main_v35 : Ref sig .tc := ⟨.hbm, 56, rfl⟩
abbrev main_c_13 : Ref sig .tc := ⟨.hbm, 57, rfl⟩
abbrev main_v36 : Ref sig .tc := ⟨.hbm, 58, rfl⟩
abbrev main_c_14 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_15 : Ref sig .tc := ⟨.hbm, 63, rfl⟩
abbrev main_call3_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call5_call0_cst : Ref sig .tc := ⟨.hbm, 69, rfl⟩
abbrev main_call5_call0_v0 : Ref sig .tc := ⟨.hbm, 70, rfl⟩
abbrev main_v44 : Ref sig .tc := ⟨.hbm, 71, rfl⟩
abbrev main_c_16 : Ref sig .tc := ⟨.hbm, 72, rfl⟩
abbrev main_v45 : Ref sig .tc := ⟨.hbm, 73, rfl⟩
abbrev main_v46 : Ref sig .tc := ⟨.hbm, 74, rfl⟩
abbrev main_c_17 : Ref sig .tc := ⟨.hbm, 75, rfl⟩
abbrev main_c_18 : Ref sig .tc := ⟨.hbm, 76, rfl⟩
abbrev main_call6_v0 : Ref sig .tc := ⟨.hbm, 77, rfl⟩
abbrev main_call6_v1 : Ref sig .tc := ⟨.hbm, 78, rfl⟩
abbrev main_call6_v2 : Ref sig .tc := ⟨.hbm, 79, rfl⟩
abbrev main_call6_v3 : Ref sig .tc := ⟨.hbm, 80, rfl⟩
abbrev main_call6_v4 : Ref sig .tc := ⟨.hbm, 81, rfl⟩
abbrev main_v47 : Ref sig .tc := ⟨.hbm, 82, rfl⟩
abbrev main_v48 : Ref sig .tc := ⟨.hbm, 83, rfl⟩
abbrev main_call7_c : Ref sig .tc := ⟨.hbm, 84, rfl⟩
abbrev main_call7_v0 : Ref sig .tc := ⟨.hbm, 85, rfl⟩
abbrev main_call7_v1 : Ref sig .tc := ⟨.hbm, 86, rfl⟩
abbrev main_call7_c_0 : Ref sig .tc := ⟨.hbm, 87, rfl⟩
abbrev main_call7_v2 : Ref sig .tc := ⟨.hbm, 88, rfl⟩
abbrev main_call7_v3 : Ref sig .tc := ⟨.hbm, 89, rfl⟩
abbrev main_call7_v4 : Ref sig .tc := ⟨.hbm, 90, rfl⟩
abbrev main_call7_v5 : Ref sig .tc := ⟨.hbm, 91, rfl⟩
abbrev main_call7_c_1 : Ref sig .tc := ⟨.hbm, 92, rfl⟩
abbrev main_call7_c_2 : Ref sig .tc := ⟨.hbm, 93, rfl⟩
abbrev main_call7_v6 : Ref sig .tc := ⟨.hbm, 94, rfl⟩
abbrev main_call7_v7 : Ref sig .tc := ⟨.hbm, 95, rfl⟩
abbrev main_call7_v8 : Ref sig .tc := ⟨.hbm, 96, rfl⟩
abbrev main_call7_v9 : Ref sig .tc := ⟨.hbm, 97, rfl⟩
abbrev main_call7_v10 : Ref sig .tc := ⟨.hbm, 98, rfl⟩
abbrev main_call7_v11 : Ref sig .tc := ⟨.hbm, 99, rfl⟩
abbrev main_call7_c_3 : Ref sig .tc := ⟨.hbm, 100, rfl⟩
abbrev main_call7_v12 : Ref sig .tc := ⟨.hbm, 101, rfl⟩
abbrev main_call7_v13 : Ref sig .tc := ⟨.hbm, 102, rfl⟩
abbrev main_call7_cst : Ref sig .tc := ⟨.hbm, 103, rfl⟩
abbrev main_call7_v14 : Ref sig .tc := ⟨.hbm, 104, rfl⟩
abbrev main_v49 : Ref sig .tc := ⟨.hbm, 105, rfl⟩
abbrev main_v50 : Ref sig .tc := ⟨.hbm, 106, rfl⟩
abbrev main_c_19 : Ref sig .tc := ⟨.hbm, 107, rfl⟩
abbrev main_v51 : Ref sig .tc := ⟨.hbm, 108, rfl⟩
abbrev main_v52 : Ref sig .tc := ⟨.hbm, 109, rfl⟩
abbrev main_cst_20 : Ref sig .tc := ⟨.hbm, 110, rfl⟩
abbrev main_v53 : Ref sig .tc := ⟨.hbm, 111, rfl⟩
abbrev main_v54 : Ref sig .tc := ⟨.hbm, 112, rfl⟩
abbrev main_cst_21 : Ref sig .tc := ⟨.hbm, 113, rfl⟩
abbrev main_v55 : Ref sig .tc := ⟨.hbm, 114, rfl⟩
abbrev main_v56 : Ref sig .tc := ⟨.hbm, 115, rfl⟩
abbrev main_cst_22 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_cst_23 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_cst_24 : Ref sig .tc := ⟨.hbm, 125, rfl⟩
abbrev main_v64 : Ref sig .tc := ⟨.hbm, 126, rfl⟩
abbrev main_v65 : Ref sig .tc := ⟨.hbm, 127, rfl⟩
abbrev main_cst_25 : Ref sig .tc := ⟨.hbm, 128, rfl⟩
abbrev main_v66 : Ref sig .tc := ⟨.hbm, 129, rfl⟩
abbrev main_v67 : Ref sig .tc := ⟨.hbm, 130, rfl⟩
abbrev main_cst_26 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_c_27 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_cst_28 : Ref sig .tc := ⟨.hbm, 139, rfl⟩
abbrev main_v74 : Ref sig .tc := ⟨.hbm, 140, rfl⟩
abbrev main_cst_29 : Ref sig .tc := ⟨.hbm, 141, rfl⟩
abbrev main_v75 : Ref sig .tc := ⟨.hbm, 142, rfl⟩

abbrev nD : Nat := 1
abbrev τ : Topo := Topo.v7x

variable {F : FTy → Type} [FloatOps F]
-- ==== Proof.KernelFrame.lean ====
/-
  The frame of the program as traced, at any float interpretation: it runs, its two arguments end unchanged, every semaphore
  counter ends at zero. Nothing is said of what the output and the scratch hold.
-/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One block's run: the inputs stay, the output and the scratch end at some contents. -/
theorem bodyRun (c : Dev nD) (i : grid0.Coords) (arg1 : Memref sig .tc .vmem S32x32768 .f32) (harg1 : arg1.IsWhole)
    (arg2 : Memref sig .tc .vmem S32x32768 .f32) (harg2 : arg2.IsWhole) (arg3 : Memref sig .tc .vmem S1x1 .f32) (harg3 : arg3.IsWhole)
    (arg4 : Memref sig .tc .vmem S32x1 .f32) (harg4 : arg4.IsWhole)
    (x1 x2 : Vec F S32x32768 .f32) (y : Vec F S1x1 .f32) (d : Vec F S32x1 .f32) (K : PUnit → sProp 𝕄) :
    iprop(owns (c : Thread nD τ) arg1 fullShare x1 ∗ owns (c : Thread nD τ) arg2 fullShare x2
      ∗ owns (c : Thread nD τ) arg3 fullShare y ∗ owns (c : Thread nD τ) arg4 fullShare d
      ∗ (iprop(owns (c : Thread nD τ) arg1 fullShare x1 ∗ owns (c : Thread nD τ) arg2 fullShare x2
      ∗ (∃ y', owns (c : Thread nD τ) arg3 fullShare y') ∗ (∃ d', owns (c : Thread nD τ) arg4 fullShare d')) -∗ K ⟨⟩))
    ⊢ wp frame (wpE (defs₀ (F := F)) Variants.none c none) Set.univ
        (cc0__block_kernel i arg1 harg1 arg2 harg2 arg3 harg3 arg4 harg4) K := by
  simp only [cc0__block_kernel_eq_skeleton]; unfold cc0__block_kernel_skel
  unfold owns
  iintro ⟨⟨%f1, %h1, H1⟩, ⟨%f2, %h2, H2⟩, ⟨%f3, %h3, H3⟩, ⟨%f4, %h4, H4⟩, Hk⟩
  subst h1 h2 h3 h4
  by_cases hi : Scalar.cmpi .ne (Scalar.extui (Scalar.cmpi .eq (BitVec.ofNat 32 (i 0).val) 0#32) : BitVec 32) 0#32 = 1#1
  all_goals
    sl_exec
    sl_step
    iapply Hk
    isplitl [H1]
    · iexists f1; isplitr; swap; · iexact H1
      ipureintro; rfl
    isplitl [H2]
    · iexists f2; isplitr; swap; · iexact H2
      ipureintro; rfl
    isplitl [H3]
    · iexists _, _; isplitr; swap; · iexact H3
      ipureintro; rfl
    · iexists _, _; isplitr; swap; · iexact H4
      ipureintro; rfl

variable (m : (ℓ : Loc nD τ sig) → Buf (Elt F) ℓ) (ρ : Dev nD → PrngReg)

/-- The block of predictions at point `t`. -/
abbrev blkP (c : Dev nD) (t : Fin cfg0.N) : Vec F S32x32768 .f32 := iblk m c 0 t
/-- The block of targets at point `t`. -/
abbrev blkT (c : Dev nD) (t : Fin cfg0.N) : Vec F S32x32768 .f32 := iblk m c 1 t

/-- The proof data: the arrays as launched, the inputs' blocks left in place, the output's buffer at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay200
  Φ _ := Pipeline.ΦA spec0 c
  q _ := fullShare
  owed _ := 0

/-- What a window's array holds before the run is what the launch left in it. -/
theorem A_eq (c : Dev nD) (w : Fin cfg0.W) : (dats m 0 c).A w = V m c (Pipeline.arrRef spec0 w) := by
  dsimp only [dats]

/-- The predictions' block is unchanged by a point of the grid. -/
theorem after0_0 (c : Dev nD) (t : Fin cfg0.N) : (dats m 0 c).after 0 t = iblk m c 0 t := by dsimp only [dats]

/-- The targets' block is unchanged by a point of the grid. -/
theorem after0_1 (c : Dev nD) (t : Fin cfg0.N) : (dats m 0 c).after 1 t = iblk m c 1 t := by dsimp only [dats]

/-- The body at a point, from the inputs' blocks and any contents of the output's buffer. -/
theorem body_core (c : Dev nD) (t : Fin cfg0.N) (y : Vec F S1x1 .f32) :
    iprop((dats m 0 c).Φ t.castSucc ∗ (dats m 0 c).owesAt () t.castSucc
      ∗ owns (c : Thread nD τ) (st0_0 t) fullShare (blkP m c t) ∗ owns (c : Thread nD τ) (st0_1 t) fullShare (blkT m c t)
      ∗ owns (c : Thread nD τ) (st0_2 t) fullShare y)
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare (blkP m c t) ∗ owns (c : Thread nD τ) (st0_1 t) fullShare (blkT m c t)
        ∗ ∃ y', owns (c : Thread nD τ) (st0_2 t) fullShare y')) := by
  unfold bodyAt0
  rw [show (dats m 0 c).Φ t.succ = (dats m 0 c).Φ t.castSucc from rfl]
  rw [show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl, show (dats m 0 c).owed t.succ = 0 from rfl]
  iintro ⟨⟨⟨%f, HS⟩, Hg⟩, HW, H0, H1, H2⟩
  iapply (bodyRun c (grid0.coords t) _ _ _ _ _ _ (Memref.whole cc0_scratch0) _ (blkP m c t) (blkT m c t) y f _)
  isplitl [H0]; · iexact H0
  isplitl [H1]; · iexact H1
  isplitl [H2]; · iexact H2
  isplitl [HS]
  · rw [owns_whole]; iexact HS
  iintro ⟨H0, H1, ⟨%y', H2⟩, ⟨%d', HS⟩⟩
  isplitl [HS Hg]
  · isplitl [HS]
    · iexists d'; rw [owns_whole]; exact .rfl
    iexact Hg
  isplitl [HW]; · iexact HW
  isplitl [H0]; · iexact H0
  isplitl [H1]; · iexact H1
  iexists y'; iexact H2

/-- The body called at a point of the grid is the body run at that point. -/
theorem defs₀_row (t : Fin cfg0.N) :
    defs₀ (F := F) .tc cfg0.body (cfg0.bodyArgs t (cfg0.slots t)) = bodyAt0 t := by
  unfold defs₀; rw [Defs.onTc_tc]

/-! ## The frame: the output's contents forgotten -/

/-- The mask of the windows whose contents the frame does not name: the output's. -/
def fgt : Fin cfg0.W → Bool := fun w => match w with
  | ⟨0, _⟩ => false
  | ⟨1, _⟩ => false
  | ⟨2, _⟩ => true

/-- The body's precondition with the output's contents forgotten. -/
def preForget (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))
/-- The body's postcondition with the output's contents forgotten. -/
def postForget (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ X, owns (c : Thread nD τ) (st0_2 t) fullShare X))

/-- The body keeps the inputs' blocks, whatever the output's buffer held and holds. -/
theorem sound_forget (c : Dev nD) (t : Fin cfg0.N) :
    preForget m c t ⊢ wp frame (wpE (defs₀ (F := F)) Variants.none c none) Set.univ (bodyAt0 t) (fun _ => postForget m c t) := by
  unfold preForget postForget
  rw [after0_0, after0_1]
  iintro ⟨HΦ, HW, ⟨%d0, H0⟩, ⟨%d1, H1⟩, ⟨%y, H2⟩⟩
  rw [before0_0_of m (dats m 0 c) (A_eq m c 0) (after0_0 m c) t d0,
    before0_1_of m (dats m 0 c) (A_eq m c 1) (after0_1 m c) t d1]
  iapply wp_wand $$ [HΦ HW H0 H1 H2]
  · iapply (body_core m c t y)
    isplitl [HΦ]; · iexact HΦ
    isplitl [HW]; · iexact HW
    isplitl [H0]; · iexact H0
    isplitl [H1]; · iexact H1
    iexact H2
  iintro %_ ⟨HΦ, HW, H0, H1, ⟨%d, H2⟩⟩
  isplitl [HΦ]; · iexact HΦ
  isplitl [HW]; · iexact HW
  isplitl [H0]; · iexact H0
  isplitl [H1]; · iexact H1
  iexists _; iexact H2

/-- The body meets what the launch asks of it, the output's contents forgotten. -/
theorem obligation_forget (c : Dev nD) : BodyObligationLoose (dats m 0 c) (defs₀ (F := F)) Variants.none () Set.univ fgt := fun t => by
  rw [bigSep_W0, bigSep_W0, defs₀_row]
  exact triple_restated (sound_forget m c t) rfl .rfl fun _ => .rfl

/-- The buffers the lines after the kernel write: the result. -/
def T0 : Finset (Ref sig .tc) := {main_v1}

/-- The host's operations after the launch write only what they are allowed to write. -/
theorem sfx_writes : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  by_contra h
  exact StableHlo.devRef_ne_of_ne (fun e => h (by rw [e]; decide)) hb

set_option backward.isDefEq.respectTransparency.types false in
/-- The frame: the program runs, its two arguments end unchanged and every semaphore counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_around_T_forget (Q' := _) cfgs (dats m) (0 : Fin 1) launch0 defs₀ Variants.none fgt T0 m ρ main
    (hbody := fun c => obligation_forget m c) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)
    (hQ' := fun r h => ⟨fun c => ⟨(h.1.arr_in c 0 rfl).trans (V_main_arg0 m c), (h.1.arr_in c 1 rfl).trans (V_main_arg1 m c)⟩, h.2⟩)

end Cert.Kernel.Hand

end
-- ==== Proof.Body.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.VecWindow
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## What one block computes, as functions of the block's two inputs -/

/-- The chunk's columns lie inside the block. -/
theorem chunk_inb (k : ℕ) : ∀ a, (![0, 512 * (k % 64)] : Fin 2 → ℕ) a + S32x512.size a ≤ S32x32768.size a := by
  have h : k % 64 < 64 := Nat.mod_lt _ (by decide)
  intro a
  fin_cases a
  · show 0 + 32 ≤ 32; omega
  · show 512 * (k % 64) + 512 ≤ 32768; omega

/-- Columns `512 k` to `512 k + 511` of a block (`k` below 64). -/
def chunk (x : Vec F S32x32768 .f32) (k : ℕ) : Vec F S32x512 .f32 :=
  VecWindow.window x ![0, 512 * (k % 64)] S32x512.size (chunk_inb k)

/-- A block as loaded whole. -/
def full (x : Vec F S32x32768 .f32) : Vec F S32x32768 .f32 :=
  VecWindow.window x ![0, 0] S32x32768.size inb_S32x32768_S32x32768_0_0

/-- The sum over the first `n` chunks of the focal terms `(1-q)² log q`. -/
def accFr (t p : ℕ → Vec F S32x512 .f32) : ℕ → FVec F S32x512 .f32
  | 0 => broadcast S32x512 (Scalar.ofBits .f32 0x00000000#32)
  | n + 1 => addf (accFr t p n) (k0_pay8 (t n) (p n))

/-- The same sum with each term weighted by its target. -/
def accTfr (t p : ℕ → Vec F S32x512 .f32) : ℕ → FVec F S32x512 .f32
  | 0 => broadcast S32x512 (Scalar.ofBits .f32 0x00000000#32)
  | n + 1 => addf (accTfr t p n) (mulf (t n) (k0_pay8 (t n) (p n)))

/-- The sum of the targets over the first `n` chunks. -/
def accT (t : ℕ → Vec F S32x512 .f32) : ℕ → FVec F S32x512 .f32
  | 0 => broadcast S32x512 (Scalar.ofBits .f32 0x00000000#32)
  | n + 1 => addf (accT t n) (t n)

variable (x1 x2 : Vec F S32x32768 .f32)

/-- The last chunk's weighted terms, which the kernel adds after the loop's other sums. -/
def lastTfr : FVec F S32x512 .f32 := mulf (chunk x2 63) (k0_pay8 (chunk x2 63) (chunk x1 63))

/-- The number of positives of each row. -/
def posCnt : IVec S32x1 32 := k0_pay190 (accT (chunk x2) 63) (chunk x2 63)
/-- The weighted sum over the positives of each row. -/
def posSum : FVec F S32x1 .f32 := k0_pay191 (accTfr (chunk x2) (chunk x1) 63) (lastTfr x1 x2)
/-- The weighted sum over the negatives of each row. -/
def negSum : FVec F S32x1 .f32 := k0_pay192 (accTfr (chunk x2) (chunk x1) 63) (accFr (chunk x2) (chunk x1) 64) (lastTfr x1 x2)
/-- The number of negatives of each row. -/
def negCnt : IVec S32x1 32 := k0_pay193 (accT (chunk x2) 63) (chunk x2 63)
/-- The number of hard negatives of each row. -/
def nHard : IVec S32x1 32 := k0_pay194 (accT (chunk x2) 63) (chunk x2 63)
/-- Positives and hard negatives together. -/
def cntAll : IVec S32x1 32 := k0_pay199 (accT (chunk x2) 63) (chunk x2 63)

/-- The condition under which the block runs the search: some row is not easy. -/
def searchW : BitVec 1 :=
  Scalar.cmpi .ne (Scalar.extui (Scalar.xori (Scalar.cmpf .ogt (k0_pay196 (accT (chunk x2) 63) (chunk x2 63)) (Scalar.ofBits .f32 0x00000000#32)) 1#1) : BitVec 32) 0#32

/-- The threshold's bit patterns found by the 31 steps of the search. -/
def thrBits : IVec S32x1 32 :=
  Scf.fold (fun k a => k0_pay4 k0_pay7 (nHard x2) (full x2) (full x1) k a) k0_pay3

/-- The hard negatives' sum as the search leaves it. -/
def hardVal : FVec F S32x1 .f32 :=
  k0_pay197 (k0_pay5 k0_pay7 (nHard x2) (full x2) (full x1) (thrBits x1 x2)) k0_pay6

/-- The scratch after the block's search (or its absence). -/
def scratch (d : Vec F S32x1 .f32) : Vec F S32x1 .f32 := if searchW x2 = 1#1 then hardVal x1 x2 else d

/-- The sum of hard negatives that is used: the negatives' own sum on an easy row, the scratch on another. -/
def hardSum (d : Vec F S32x1 .f32) : FVec F S32x1 .f32 :=
  k0_pay198 (accTfr (chunk x2) (chunk x1) 63) (accT (chunk x2) 63) (chunk x2 63) (accFr (chunk x2) (chunk x1) 64) (lastTfr x1 x2) d

/-- What one block leaves in the output, from what it found there (`y`) and in the scratch (`d`). -/
def outNew (y : Vec F S1x1 .f32) (d : Vec F S32x1 .f32) : FVec F S1x1 .f32 :=
  k0_pay1 (k0_pay201 y) (k0_pay202 (posCnt x2) (posSum x1 x2) (negSum x1 x2) (negCnt x2) (hardSum x1 x2 (scratch x1 x2 d)) (cntAll x2))

/-- The condition of the reset at the first block. -/
abbrev first (i : grid0.Coords) : Prop := Scalar.cmpi .ne (Scalar.extui (Scalar.cmpi .eq (BitVec.ofNat 32 (i 0).val) 0#32) : BitVec 32) 0#32 = 1#1

/-- The scratch as it is read back after the branch of the search. -/
theorem scratch_read (arg4 : Memref sig .tc .vmem S32x1 .f32) (f4 : BufTy.Contents (Elt F) arg4.view.ty) :
    View.readAt (Elt F) arg4.view (Rect.unit ![0, 0] S32x1.size inb_S32x1_S32x1_0_0).toLoadRect
      (if hc : searchW x2 = 1#1 then
        arg4.view.writes (Elt F) f4 [⟨Rect.unit ![0, 0] S32x1.size inb_S32x1_S32x1_0_0, hardVal x1 x2⟩]
      else f4) = scratch x1 x2 (View.read (Elt F) arg4.view f4) := by
  unfold scratch
  rw [View.readAt_full]
  by_cases h : searchW x2 = 1#1
  · rw [dif_pos h, if_pos h, View.read_writes_full]
  · rw [dif_neg h, if_neg h]

set_option sl_exec.resultNames true in
/-- One block's run at a later point: the inputs stay, the output ends at
    `outNew` of what the block found. -/
theorem bodyRun (c : Dev nD) (i : grid0.Coords) (hi : ¬ first i) (arg1 : Memref sig .tc .vmem S32x32768 .f32) (harg1 : arg1.IsWhole)
    (arg2 : Memref sig .tc .vmem S32x32768 .f32) (harg2 : arg2.IsWhole) (arg3 : Memref sig .tc .vmem S1x1 .f32) (harg3 : arg3.IsWhole)
    (arg4 : Memref sig .tc .vmem S32x1 .f32) (harg4 : arg4.IsWhole)
    (x1 x2 : Vec F S32x32768 .f32) (y : Vec F S1x1 .f32) (d : Vec F S32x1 .f32) (K : PUnit → sProp 𝕄) :
    iprop(owns (c : Thread nD τ) arg1 fullShare x1 ∗ owns (c : Thread nD τ) arg2 fullShare x2
      ∗ owns (c : Thread nD τ) arg3 fullShare y ∗ owns (c : Thread nD τ) arg4 fullShare d
      ∗ (iprop(owns (c : Thread nD τ) arg1 fullShare x1 ∗ owns (c : Thread nD τ) arg2 fullShare x2
      ∗ owns (c : Thread nD τ) arg3 fullShare (outNew x1 x2 y d) ∗ (∃ d', owns (c : Thread nD τ) arg4 fullShare d')) -∗ K ⟨⟩))
    ⊢ wp frame (wpE (defs₀ (F := F)) Variants.none c none) Set.univ
        (cc0__block_kernel i arg1 harg1 arg2 harg2 arg3 harg3 arg4 harg4) K := by
  simp only [cc0__block_kernel_eq_skeleton]; unfold cc0__block_kernel_skel
  unfold owns
  iintro ⟨⟨%f1, %h1, H1⟩, ⟨%f2, %h2, H2⟩, ⟨%f3, %h3, H3⟩, ⟨%f4, %h4, H4⟩, Hk⟩
  subst h1 h2 h3 h4
  sl_exec
  sl_step
  iapply Hk
  isplitl [H1]
  · iexists f1; isplitr; swap; · iexact H1
    ipureintro; rfl
  isplitl [H2]
  · iexists f2; isplitr; swap; · iexact H2
    ipureintro; rfl
  isplitl [H3]
  · iexists _; isplitr; swap; · iexact H3
    ipureintro
    rw [View.read_writes_full]
    unfold outNew
    rw [← scratch_read, ← View.readAt_full arg3.view f3 inb_S1x1_S1x1_0_0]
    rfl
  · iexists _, _; isplitr; swap; · iexact H4
    ipureintro; rfl

set_option sl_exec.resultNames true in
/-- One block's run at the first point: the inputs stay, the output ends at
    `outNew` of what the block found. -/
theorem bodyRunFirst (c : Dev nD) (i : grid0.Coords) (hi :  first i) (arg1 : Memref sig .tc .vmem S32x32768 .f32) (harg1 : arg1.IsWhole)
    (arg2 : Memref sig .tc .vmem S32x32768 .f32) (harg2 : arg2.IsWhole) (arg3 : Memref sig .tc .vmem S1x1 .f32) (harg3 : arg3.IsWhole)
    (arg4 : Memref sig .tc .vmem S32x1 .f32) (harg4 : arg4.IsWhole)
    (x1 x2 : Vec F S32x32768 .f32) (y : Vec F S1x1 .f32) (d : Vec F S32x1 .f32) (K : PUnit → sProp 𝕄) :
    iprop(owns (c : Thread nD τ) arg1 fullShare x1 ∗ owns (c : Thread nD τ) arg2 fullShare x2
      ∗ owns (c : Thread nD τ) arg3 fullShare y ∗ owns (c : Thread nD τ) arg4 fullShare d
      ∗ (iprop(owns (c : Thread nD τ) arg1 fullShare x1 ∗ owns (c : Thread nD τ) arg2 fullShare x2
      ∗ owns (c : Thread nD τ) arg3 fullShare (outNew x1 x2 k0_pay200 d) ∗ (∃ d', owns (c : Thread nD τ) arg4 fullShare d')) -∗ K ⟨⟩))
    ⊢ wp frame (wpE (defs₀ (F := F)) Variants.none c none) Set.univ
        (cc0__block_kernel i arg1 harg1 arg2 harg2 arg3 harg3 arg4 harg4) K := by
  simp only [cc0__block_kernel_eq_skeleton]; unfold cc0__block_kernel_skel
  unfold owns
  iintro ⟨⟨%f1, %h1, H1⟩, ⟨%f2, %h2, H2⟩, ⟨%f3, %h3, H3⟩, ⟨%f4, %h4, H4⟩, Hk⟩
  subst h1 h2 h3 h4
  sl_exec
  sl_step
  iapply Hk
  isplitl [H1]
  · iexists f1; isplitr; swap; · iexact H1
    ipureintro; rfl
  isplitl [H2]
  · iexists f2; isplitr; swap; · iexact H2
    ipureintro; rfl
  isplitl [H3]
  · iexists _; isplitr; swap; · iexact H3
    ipureintro
    rw [View.read_writes_full]
    unfold outNew
    rw [← scratch_read, show bodyRunFirst.sl.v1339 (F := F) c arg3 = k0_pay201 k0_pay200 from
      congrArg k0_pay201 (View.readCov_full (Val := Elt F) arg3.view inb_S1x1_S1x1_0_0 inb_S1x1_S1x1_0_0 (k0_pay200 (F := F)) [])]
    rfl
  · iexists _, _; isplitr; swap; · iexact H4
    ipureintro; rfl

/-- One block's run at any point: the output starts from zero at the first point, from what the block found at a later one. -/
theorem blockRun (c : Dev nD) (i : grid0.Coords) (arg1 : Memref sig .tc .vmem S32x32768 .f32) (harg1 : arg1.IsWhole)
    (arg2 : Memref sig .tc .vmem S32x32768 .f32) (harg2 : arg2.IsWhole) (arg3 : Memref sig .tc .vmem S1x1 .f32) (harg3 : arg3.IsWhole)
    (arg4 : Memref sig .tc .vmem S32x1 .f32) (harg4 : arg4.IsWhole)
    (x1 x2 : Vec F S32x32768 .f32) (y : Vec F S1x1 .f32) (d : Vec F S32x1 .f32) (K : PUnit → sProp 𝕄) :
    iprop(owns (c : Thread nD τ) arg1 fullShare x1 ∗ owns (c : Thread nD τ) arg2 fullShare x2
      ∗ owns (c : Thread nD τ) arg3 fullShare y ∗ owns (c : Thread nD τ) arg4 fullShare d
      ∗ (iprop(owns (c : Thread nD τ) arg1 fullShare x1 ∗ owns (c : Thread nD τ) arg2 fullShare x2
      ∗ owns (c : Thread nD τ) arg3 fullShare (outNew x1 x2 (if first i then k0_pay200 else y) d) ∗ (∃ d', owns (c : Thread nD τ) arg4 fullShare d')) -∗ K ⟨⟩))
    ⊢ wp frame (wpE (defs₀ (F := F)) Variants.none c none) Set.univ
        (cc0__block_kernel i arg1 harg1 arg2 harg2 arg3 harg3 arg4 harg4) K := by
  by_cases hi : first i
  · rw [if_pos hi]
    exact bodyRunFirst c i hi arg1 harg1 arg2 harg2 arg3 harg3 arg4 harg4 x1 x2 y d K
  · rw [if_neg hi]
    exact bodyRun c i hi arg1 harg1 arg2 harg2 arg3 harg3 arg4 harg4 x1 x2 y d K

end Cert.KernelIdeal.Hand

end
-- ==== Proof.Frame.lean ====
/-
  The kernel's run. `dats` is the proof data of the one pipeline, for any statement `out` of what the output's staging buffer
  holds after each block. From it follow the frame of the program, in which the output's contents are not named (`frame`),
  and a run that names the result, whenever `out` follows the blocks' steps (`run_value`).
-/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (out : Dev nD → Fin cfg0.N → Vec F S1x1 .f32)

/-- The block of predictions at point `t`. -/
abbrev blkP (c : Dev nD) (t : Fin cfg0.N) : Vec F S32x32768 .f32 := iblk m c 0 t
/-- The block of targets at point `t`. -/
abbrev blkT (c : Dev nD) (t : Fin cfg0.N) : Vec F S32x32768 .f32 := iblk m c 1 t

/-- The proof data: the arrays as launched, the inputs' blocks left in place, the output's buffer at `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out c t
  Φ _ := Pipeline.ΦA spec0 c
  q _ := fullShare
  owed _ := 0

/-- What a window's array holds before the run is what the launch left in it. -/
theorem A_eq (c : Dev nD) (w : Fin cfg0.W) : (dats m out 0 c).A w = V m c (Pipeline.arrRef spec0 w) := by
  dsimp only [dats]

/-- The predictions' block is unchanged by a point of the grid. -/
theorem after0_0 (c : Dev nD) (t : Fin cfg0.N) : (dats m out 0 c).after 0 t = iblk m c 0 t := by dsimp only [dats]

/-- The targets' block is unchanged by a point of the grid. -/
theorem after0_1 (c : Dev nD) (t : Fin cfg0.N) : (dats m out 0 c).after 1 t = iblk m c 1 t := by dsimp only [dats]

/-- The output's block after a point holds the contents that were named for it. -/
theorem after0_2 (c : Dev nD) (t : Fin cfg0.N) : (dats m out 0 c).after 2 t = out c t := by dsimp only [dats]

/-- The body at a point, from the inputs' blocks and any contents of the output's buffer. -/
theorem body_core (c : Dev nD) (t : Fin cfg0.N) (y : Vec F S1x1 .f32) :
    iprop((dats m out 0 c).Φ t.castSucc ∗ (dats m out 0 c).owesAt () t.castSucc
      ∗ owns (c : Thread nD τ) (st0_0 t) fullShare (blkP m c t) ∗ owns (c : Thread nD τ) (st0_1 t) fullShare (blkT m c t)
      ∗ owns (c : Thread nD τ) (st0_2 t) fullShare y)
    ⊢ wp frame (wpE (defs₀ (F := F)) Variants.none c none) Set.univ (bodyAt0 t) (fun _ =>
      iprop((dats m out 0 c).Φ t.succ ∗ (dats m out 0 c).owesAt () t.succ
        ∗ owns (c : Thread nD τ) (st0_0 t) fullShare (blkP m c t) ∗ owns (c : Thread nD τ) (st0_1 t) fullShare (blkT m c t)
        ∗ ∃ d, owns (c : Thread nD τ) (st0_2 t) fullShare
            (outNew (blkP m c t) (blkT m c t) (if first (grid0.coords t) then k0_pay200 else y) d))) := by
  unfold bodyAt0
  rw [show (dats m out 0 c).Φ t.succ = (dats m out 0 c).Φ t.castSucc from rfl]
  rw [show (dats m out 0 c).Φ t.castSucc = Pipeline.ΦA spec0 c from rfl]
  unfold Pipeline.ΦA
  rw [scopedRest0_eq]
  unfold Dat.owesAt Pipeline.owesWithin
  rw [show (dats m out 0 c).owed t.castSucc = 0 from rfl, show (dats m out 0 c).owed t.succ = 0 from rfl]
  iintro ⟨⟨⟨%f, HS⟩, Hg⟩, HW, H0, H1, H2⟩
  iapply (blockRun c (grid0.coords t) _ _ _ _ _ _ (Memref.whole cc0_scratch0) _ (blkP m c t) (blkT m c t) y f _)
  isplitl [H0]; · iexact H0
  isplitl [H1]; · iexact H1
  isplitl [H2]; · iexact H2
  isplitl [HS]
  · rw [owns_whole]; iexact HS
  iintro ⟨H0, H1, H2, ⟨%d', HS⟩⟩
  isplitl [HS Hg]
  · isplitl [HS]
    · iexists d'; rw [owns_whole]; exact .rfl
    iexact Hg
  isplitl [HW]; · iexact HW
  isplitl [H0]; · iexact H0
  isplitl [H1]; · iexact H1
  iexists f; iexact H2

/-- The body called at a point of the grid is the body run at that point. -/
theorem defs₀_row (t : Fin cfg0.N) :
    defs₀ (F := F) .tc cfg0.body (cfg0.bodyArgs t (cfg0.slots t)) = bodyAt0 t := by
  unfold defs₀; rw [Defs.onTc_tc]

/-! ## The frame: the output's contents forgotten -/

/-- The mask of the windows whose contents the frame does not name: the output's. -/
def fgt : Fin cfg0.W → Bool := fun w => match w with
  | ⟨0, _⟩ => false
  | ⟨1, _⟩ => false
  | ⟨2, _⟩ => true

/-- The body's precondition with the output's contents forgotten. -/
def preForget (c : Dev nD) (t : Fin cfg0.N) : sProp 𝕄 :=
  iprop((dats m out 0 c).Φ t.castSucc ∗ (dats m out 0 c).owesAt () t.castSucc
    ∗ (∃ d, owns (c : Thread nD τ) (st0_0 t) fullShare ((dats m out 0 c).before 0 t d))
    ∗ (∃ d, owns (c : Thread nD τ) (st0_1 t) fullShare ((dats m out 0 c).before 1 t d))
    ∗ (∃ X, owns (c : Thread nD τ) (st0_2 t) fullShare X))
/-- The body's postcondition with the output's contents forgotten. -/
def postForget (c : Dev nD) (t : Fin cfg0.N) : sProp 𝕄 :=
  iprop((dats m out 0 c).Φ t.succ ∗ (dats m out 0 c).owesAt () t.succ
    ∗ owns (c : Thread nD τ) (st0_0 t) fullShare ((dats m out 0 c).after 0 t)
    ∗ owns (c : Thread nD τ) (st0_1 t) fullShare ((dats m out 0 c).after 1 t)
    ∗ (∃ X, owns (c : Thread nD τ) (st0_2 t) fullShare X))

/-- The body keeps the inputs' blocks, whatever the output's buffer held and holds. -/
theorem sound_forget (c : Dev nD) (t : Fin cfg0.N) :
    preForget m out c t ⊢ wp frame (wpE (defs₀ (F := F)) Variants.none c none) Set.univ (bodyAt0 t) (fun _ => postForget m out c t) := by
  unfold preForget postForget
  rw [after0_0, after0_1]
  iintro ⟨HΦ, HW, ⟨%d0, H0⟩, ⟨%d1, H1⟩, ⟨%y, H2⟩⟩
  rw [before0_0_of m (dats m out 0 c) (A_eq m out c 0) (after0_0 m out c) t d0,
    before0_1_of m (dats m out 0 c) (A_eq m out c 1) (after0_1 m out c) t d1]
  iapply wp_wand $$ [HΦ HW H0 H1 H2]
  · iapply (body_core m out c t y)
    isplitl [HΦ]; · iexact HΦ
    isplitl [HW]; · iexact HW
    isplitl [H0]; · iexact H0
    isplitl [H1]; · iexact H1
    iexact H2
  iintro %_ ⟨HΦ, HW, H0, H1, ⟨%d, H2⟩⟩
  isplitl [HΦ]; · iexact HΦ
  isplitl [HW]; · iexact HW
  isplitl [H0]; · iexact H0
  isplitl [H1]; · iexact H1
  iexists _; iexact H2

/-- The body meets what the launch asks of it, the output's contents forgotten. -/
theorem obligation_forget (c : Dev nD) : BodyObligationLoose (dats m out 0 c) (defs₀ (F := F)) Variants.none () Set.univ fgt := fun t => by
  rw [bigSep_W0, bigSep_W0, defs₀_row]
  exact triple_restated (sound_forget m out c t) rfl .rfl fun _ => .rfl

/-- The buffers the lines after the kernel write: the result. -/
def T0 : Finset (Ref sig .tc) := {main_v1}

/-- The host's operations after the launch write only what they are allowed to write. -/
theorem sfx_writes : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  by_contra h
  exact StableHlo.devRef_ne_of_ne (fun e => h (by rw [e]; decide)) hb

set_option backward.isDefEq.respectTransparency.types false in
/-- The frame: the program runs, its two arguments end unchanged and every semaphore counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_around_T_forget (Q' := _) cfgs (dats m fun _ _ => k0_pay200) (0 : Fin 1) launch0 defs₀ Variants.none fgt T0 m ρ main
    (hbody := fun c => obligation_forget m _ c) (hshare := fun c => (dats m _ 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m _) (hΦ := fun _ _ => rfl)
    (hQ' := fun r h => ⟨fun c => ⟨(h.1.arr_in c 0 rfl).trans (V_main_arg0 m c), (h.1.arr_in c 1 rfl).trans (V_main_arg1 m c)⟩, h.2⟩)

/-! ## The run that names the result -/

/-- `out` follows the blocks' steps: whatever the scratch holds, a block turns what the previous left into what `out` says. -/
def Follows : Prop := ∀ (c : Dev nD) (t : Fin cfg0.N) (y : Vec F S1x1 .f32) (d : Vec F S32x1 .f32),
  (∀ h : t.val ≠ 0, y = out c ⟨t.val - 1, Nat.lt_of_le_of_lt (Nat.sub_le _ _) t.isLt⟩) →
  outNew (blkP m c t) (blkT m c t) (if first (grid0.coords t) then k0_pay200 else y) d = out c t

/-- The body's precondition. -/
def preExact (c : Dev nD) (t : Fin cfg0.N) : sProp 𝕄 :=
  iprop((dats m out 0 c).Φ t.castSucc ∗ (dats m out 0 c).owesAt () t.castSucc
    ∗ (∃ d, owns (c : Thread nD τ) (st0_0 t) fullShare ((dats m out 0 c).before 0 t d))
    ∗ (∃ d, owns (c : Thread nD τ) (st0_1 t) fullShare ((dats m out 0 c).before 1 t d))
    ∗ (∃ d, owns (c : Thread nD τ) (st0_2 t) fullShare ((dats m out 0 c).before 2 t d)))
/-- The body's postcondition. -/
def postExact (c : Dev nD) (t : Fin cfg0.N) : sProp 𝕄 :=
  iprop((dats m out 0 c).Φ t.succ ∗ (dats m out 0 c).owesAt () t.succ
    ∗ owns (c : Thread nD τ) (st0_0 t) fullShare ((dats m out 0 c).after 0 t)
    ∗ owns (c : Thread nD τ) (st0_1 t) fullShare ((dats m out 0 c).after 1 t)
    ∗ owns (c : Thread nD τ) (st0_2 t) fullShare ((dats m out 0 c).after 2 t))

/-- At a later point the output's buffer still holds what the block before left. -/
theorem before0_2 (c : Dev nD) (t : Fin cfg0.N) (d) (ht : t.val ≠ 0) :
    (dats m out 0 c).before 2 t d = out c ⟨t.val - 1, Nat.lt_of_le_of_lt (Nat.sub_le _ _) t.isLt⟩ := by
  rw [(dats m out 0 c).before_out_kept 2 rfl t ht _ (fun _ => rfl) (fun _ _ => rfl), after0_2]
  rw [Bool.eq_false_iff]
  intro hf
  have h1 := (flush0_2 _).mp hf
  have h2 := N_0
  have h3 : t.val < grid0.N := t.isLt
  simp only at h1
  omega

/-- A run of the body at a point gives the output the contents that were named for it. -/
theorem sound_exact (hf : Follows m out) (c : Dev nD) (t : Fin cfg0.N) :
    preExact m out c t ⊢ wp frame (wpE (defs₀ (F := F)) Variants.none c none) Set.univ (bodyAt0 t) (fun _ => postExact m out c t) := by
  unfold preExact postExact
  rw [after0_0, after0_1, after0_2]
  iintro ⟨HΦ, HW, ⟨%d0, H0⟩, ⟨%d1, H1⟩, ⟨%y, H2⟩⟩
  rw [before0_0_of m (dats m out 0 c) (A_eq m out c 0) (after0_0 m out c) t d0,
    before0_1_of m (dats m out 0 c) (A_eq m out c 1) (after0_1 m out c) t d1]
  iapply wp_wand $$ [HΦ HW H0 H1 H2]
  · iapply (body_core m out c t ((dats m out 0 c).before 2 t y))
    isplitl [HΦ]; · iexact HΦ
    isplitl [HW]; · iexact HW
    isplitl [H0]; · iexact H0
    isplitl [H1]; · iexact H1
    iexact H2
  iintro %_ ⟨HΦ, HW, H0, H1, ⟨%d, H2⟩⟩
  rw [hf c t _ d (fun h => before0_2 m out c t y h)]
  isplitl [HΦ]; · iexact HΦ
  isplitl [HW]; · iexact HW
  isplitl [H0]; · iexact H0
  isplitl [H1]; · iexact H1
  iexact H2

/-- The body meets what the launch asks of it, the output's contents named. -/
theorem obligation_exact (hf : Follows m out) (c : Dev nD) : BodyObligation (dats m out 0 c) (defs₀ (F := F)) Variants.none () Set.univ := fun t => by
  rw [bigSep_W0, bigSep_W0, defs₀_row]
  exact triple_restated (sound_exact m out hf c t) rfl .rfl fun _ => .rfl

set_option backward.isDefEq.respectTransparency.types false in
/-- The run with exact data: every array of the pipeline and every other buffer at what the data say. -/
theorem run_exact (hf : Follows m out) : θ_run defs (onTc (τ := τ) (main (F := F))) (s₀ m ρ)
    (Pipeline.FramePost cfgs (dats m out) 0 (Pipeline.afterTail₀ cfgs (dats m out) 0 (V0 m) [hostOps1])) :=
  Pipeline.θ_run_frame_around cfgs (dats m out) (0 : Fin 1) launch0 defs₀ Variants.none m ρ main
    (hbody := fun c => (obligation_exact m out hf c).loose) (hshare := fun c => (dats m out 0 c).share_full fun _ => rfl)
    (howed := fun _ _ => rfl) (V₀ := V0 m) (opss := [hostOps1]) (hsub := sfx_sub) (hfresh := sfx_fresh) (hkeep := sfx_keeps)
    (hmain := hmain m Variants.none) (hA := A_eq m out) (hΦ := fun _ _ => rfl)

end Cert.KernelIdeal.Hand

end
-- ==== Proof.Pattern.lean ====
/-
  The nonnegative float32 bit patterns as real numbers: increasing, with a gap of at most one part in 2^23
  above the subnormals; and the bitwise search for the greatest pattern at which a decreasing condition holds.
-/
module

public import Idealize.ShloMosaic.PureOps.Ideal
public import Mathlib.Tactic.Linarith
public import Mathlib.Tactic.NormNum
public import Mathlib.Tactic.Ring
public import Mathlib.Tactic.Positivity
public import Mathlib.Tactic.SplitIfs

@[expose] public section

noncomputable section

namespace Cert.Row

open Idealize.ShloMosaic

/-- The real number a nonnegative pattern below infinity's denotes. -/
def patVal (b : ℕ) : ℝ :=
  if b / 2 ^ 23 = 0 then ((b % 2 ^ 23 : ℕ) : ℝ) * (2 : ℝ) ^ (-149 : ℤ)
  else ((2 ^ 23 + b % 2 ^ 23 : ℕ) : ℝ) * (2 : ℝ) ^ (((b / 2 ^ 23 : ℕ) : ℤ) - 150)

/-- A nonnegative finite pattern denotes `patVal` of its number. -/
theorem ofBits_eq_patVal (w : BitVec 32) (h : w.toNat < 0x7F800000) :
    Ideal.ofBits .f32 w = ((patVal w.toNat : ℝ) : EReal) := by
  have hneg : (w.extractLsb' 31 1 == 1#1) = false := by
    rw [beq_eq_false_iff_ne]
    intro hh
    have := congrArg BitVec.toNat hh
    rw [BitVec.extractLsb'_toNat, Nat.shiftRight_eq_div_pow] at this
    simp at this
    omega
  have hex : (w.extractLsb' 23 8).toNat = w.toNat / 2 ^ 23 := by
    rw [BitVec.extractLsb'_toNat, Nat.shiftRight_eq_div_pow]
    apply Nat.mod_eq_of_lt
    omega
  have hfr : (w.extractLsb' 0 23).toNat = w.toNat % 2 ^ 23 := by
    rw [BitVec.extractLsb'_toNat, Nat.shiftRight_zero]
  have hne : w.toNat / 2 ^ 23 ≠ 2 ^ 8 - 1 := by omega
  show Ideal.ieee 8 23 w = _
  unfold Ideal.ieee
  simp only [hneg, hex, hfr, hne, if_false, patVal, Bool.false_eq_true]
  split_ifs with h0
  · norm_num
  · congr 1
    rw [one_mul]
    congr 2
    ring

/-- One step up adds one unit of the last place. -/
theorem patVal_succ (b : ℕ) :
    patVal (b + 1) = patVal b + (2 : ℝ) ^ ((max 1 (b / 2 ^ 23) : ℕ) - 150 : ℤ) := by
  have hd := Nat.div_add_mod b (2 ^ 23)
  set q := b / 2 ^ 23 with hq
  set r := b % 2 ^ 23 with hr
  have hrl : r < 2 ^ 23 := Nat.mod_lt _ (by norm_num)
  by_cases hlast : r + 1 < 2 ^ 23
  · have hq' : (b + 1) / 2 ^ 23 = q := by omega
    have hr' : (b + 1) % 2 ^ 23 = r + 1 := by omega
    unfold patVal
    rw [← hq, ← hr, hq', hr']
    split_ifs with h0
    · rw [h0]; push_cast; norm_num; ring
    · rw [max_eq_right (by omega)]; push_cast; ring
  · have hr1 : r = 2 ^ 23 - 1 := by omega
    have hq' : (b + 1) / 2 ^ 23 = q + 1 := by omega
    have hr' : (b + 1) % 2 ^ 23 = 0 := by omega
    unfold patVal
    rw [← hq, ← hr, hq', hr', if_neg (Nat.succ_ne_zero q)]
    split_ifs with h0
    · rw [h0, hr1]; norm_num
    · rw [max_eq_right (by omega), hr1]
      have : (((q + 1 : ℕ) : ℤ) - 150) = ((q : ℕ) - 150 : ℤ) + 1 := by push_cast; ring
      rw [this, zpow_add_one₀ (by norm_num)]
      push_cast
      norm_num
      ring

/-- A greater pattern has a greater value. -/
theorem patVal_mono : Monotone patVal :=
  monotone_nat_of_le_succ fun b => by
    rw [patVal_succ]
    have : (0 : ℝ) < (2 : ℝ) ^ ((max 1 (b / 2 ^ 23) : ℕ) - 150 : ℤ) := by positivity
    linarith

/-- The value of a pattern is not negative. -/
theorem patVal_nonneg (b : ℕ) : 0 ≤ patVal b := by
  unfold patVal; split_ifs <;> positivity

/-- The zero pattern's value is zero. -/
theorem patVal_zero : patVal 0 = 0 := by norm_num [patVal]

/-- Above the subnormals one step up is a growth of at most one part in 2^23. -/
theorem patVal_succ_le (b : ℕ) (h : 2 ^ 23 ≤ b) : patVal (b + 1) ≤ (1 + 1 / 2 ^ 23) * patVal b := by
  have hq : 1 ≤ b / 2 ^ 23 := (Nat.one_le_div_iff (by norm_num)).2 h
  rw [patVal_succ, max_eq_right hq]
  have hv : patVal b = ((2 ^ 23 + b % 2 ^ 23 : ℕ) : ℝ) * (2 : ℝ) ^ (((b / 2 ^ 23 : ℕ) : ℤ) - 150) := by
    unfold patVal; rw [if_neg (by omega)]
  rw [hv]
  have hp : (0 : ℝ) < (2 : ℝ) ^ (((b / 2 ^ 23 : ℕ) : ℤ) - 150) := by positivity
  have hr : (0 : ℝ) ≤ ((b % 2 ^ 23 : ℕ) : ℝ) := by positivity
  rw [Nat.cast_add]
  generalize ((b % 2 ^ 23 : ℕ) : ℝ) = r at hr ⊢
  generalize (2 : ℝ) ^ (((b / 2 ^ 23 : ℕ) : ℤ) - 150) = u at hp ⊢
  norm_num
  nlinarith [mul_nonneg hr hp.le]

/-- A bound above every value that is searched for: pattern `0x42000000`. -/
theorem patVal_top : patVal 0x42000000 = 32 := by norm_num [patVal]

/-- The patterns up to one past the subnormals are below `2^-60`. -/
theorem patVal_small : patVal (2 ^ 23 + 1) < 1 / 2 ^ 60 := by norm_num [patVal]

/-! ## The search -/

/-- One step of the search: try the bit, keep it where the condition holds. -/
def bitStep (A : ℕ → Prop) [DecidablePred A] (k : ℕ) (r : BitVec 32) : BitVec 32 :=
  if A (r ||| (1#32 <<< (30 - k))).toNat then r ||| (1#32 <<< (30 - k)) else r

/-- What holds after `k` steps: the condition at the pattern found, not at the next multiple of the bit tried last. -/
structure SearchInv (A : ℕ → Prop) (k : ℕ) (r : BitVec 32) : Prop where
  dvd : 2 ^ (31 - k) ∣ r.toNat
  holds : A r.toNat
  next : 0x42000000 ≤ r.toNat + 2 ^ (31 - k) ∨ ¬ A (r.toNat + 2 ^ (31 - k))

/-- Setting a bit below those that are set adds that bit's value. -/
theorem toNat_or_bit (r : BitVec 32) (k : ℕ) (hk : k < 31) (hd : 2 ^ (31 - k) ∣ r.toNat) :
    (r ||| (1#32 <<< (30 - k))).toNat = r.toNat + 2 ^ (30 - k) := by
  have hb : (1#32 <<< (30 - k)).toNat = 2 ^ (30 - k) := by
    rw [BitVec.toNat_shiftLeft, BitVec.toNat_ofNat, Nat.shiftLeft_eq]
    rw [Nat.mod_eq_of_lt (a := 1) (by norm_num), one_mul]
    exact Nat.mod_eq_of_lt (Nat.pow_lt_pow_right (by norm_num) (by omega))
  obtain ⟨q, hq⟩ := hd
  rw [BitVec.toNat_or, hb, hq]
  exact (Nat.two_pow_add_eq_or_of_lt (Nat.pow_lt_pow_right (by norm_num) (by omega)) q).symm

/-- No pattern the search tries is infinity's or above. -/
theorem SearchInv.trial_lt {A : ℕ → Prop} {k : ℕ} (hk : k < 31) {r : BitVec 32} (h : SearchInv A k r) (hr : r.toNat < 0x42000000) :
    r.toNat + 2 ^ (30 - k) < 0x7F800000 := by
  rcases Nat.eq_zero_or_pos k with rfl | hk0
  · obtain ⟨q, hq⟩ := h.dvd
    have : q = 0 := by
      norm_num at hq; omega
    rw [hq, this]; norm_num
  · have : 2 ^ (30 - k) ≤ 2 ^ 29 := Nat.pow_le_pow_right (by norm_num) (by omega)
    norm_num at this
    omega

/-- One step keeps the invariant: `A` only has to be decreasing on the finite patterns and to fail at `0x42000000`. -/
theorem SearchInv.step {A : ℕ → Prop} [DecidablePred A] (hA : ∀ a b, a ≤ b → b < 0x7F800000 → A b → A a)
    (htop : ¬ A 0x42000000) {k : ℕ} (hk : k < 31) {r : BitVec 32} (h : SearchInv A k r) (hr : r.toNat < 0x42000000) :
    SearchInv A (k + 1) (bitStep A k r) ∧ (bitStep A k r).toNat < 0x42000000 := by
  have ht := toNat_or_bit r k hk h.dvd
  have he : 31 - (k + 1) = 30 - k := by omega
  have hp : 2 ^ (31 - k) = 2 * 2 ^ (30 - k) := by rw [← pow_succ']; congr 1; omega
  have hfin := h.trial_lt hk hr
  unfold bitStep
  rw [ht]
  split_ifs with hc
  · have hlt : r.toNat + 2 ^ (30 - k) < 0x42000000 := by
      by_contra hge
      exact htop (hA _ _ (not_lt.1 hge) hfin hc)
    refine ⟨⟨?_, by rw [ht]; exact hc, ?_⟩, by rw [ht]; exact hlt⟩
    · rw [ht, he]
      exact Nat.dvd_add (Dvd.dvd.trans ⟨2, by rw [hp]; ring⟩ h.dvd) dvd_rfl
    · rw [ht, he, add_assoc, ← two_mul, ← hp]
      exact h.next
  · refine ⟨⟨?_, h.holds, ?_⟩, hr⟩
    · rw [he]
      exact Dvd.dvd.trans ⟨2, by rw [hp]; ring⟩ h.dvd
    · rw [he]
      exact Or.inr hc

/-- The search from 0 in 31 steps. -/
def bitSearch (A : ℕ → Prop) [DecidablePred A] : ℕ → BitVec 32
  | 0 => 0#32
  | k + 1 => bitStep A k (bitSearch A k)

/-- The invariant at every step of the search. -/
theorem bitSearch_inv {A : ℕ → Prop} [DecidablePred A] (hA : ∀ a b, a ≤ b → b < 0x7F800000 → A b → A a)
    (h0 : A 0) (htop : ¬ A 0x42000000) (k : ℕ) (hk : k ≤ 31) :
    SearchInv A k (bitSearch A k) ∧ (bitSearch A k).toNat < 0x42000000 := by
  induction k with
  | zero => exact ⟨⟨by simp [bitSearch], by simpa [bitSearch] using h0, Or.inl (by simp [bitSearch])⟩, by simp [bitSearch]⟩
  | succ k ih =>
    obtain ⟨h1, h2⟩ := ih (by omega)
    exact h1.step hA htop (by omega) h2

/-- The search ends at the greatest pattern at which the condition holds. -/
theorem bitSearch_spec {A : ℕ → Prop} [DecidablePred A] (hA : ∀ a b, a ≤ b → b < 0x7F800000 → A b → A a)
    (h0 : A 0) (htop : ¬ A 0x42000000) :
    A (bitSearch A 31).toNat ∧ ¬ A ((bitSearch A 31).toNat + 1) ∧ (bitSearch A 31).toNat < 0x42000000 := by
  obtain ⟨h1, h2⟩ := bitSearch_inv hA h0 htop 31 le_rfl
  refine ⟨h1.holds, ?_, h2⟩
  rcases h1.next with h | h
  · have : (bitSearch A 31).toNat + 1 = 0x42000000 := by norm_num at h; omega
    rw [this]; exact htop
  · simpa using h

end Cert.Row

end
-- ==== Proof.RowMath.lean ====
/-
  One row over the reals: the clipped prediction, the loss of an element, how the loss separates where the
  predictions do, the sum of the greatest `n` values of a family, and the kernel's threshold form of that sum.
-/
module

public import proofs.«01_k».proof.Proof.Pattern
public import Mathlib.Analysis.SpecialFunctions.Log.Basic
public import Mathlib.Algebra.BigOperators.Group.Finset.Basic
public import Mathlib.Algebra.Order.BigOperators.Group.Finset
public import Mathlib.Tactic.FinCases

@[expose] public section

noncomputable section

namespace Cert.Row

open Idealize.ShloMosaic

/-- The lower clipping bound: the float32 nearest to `1e-6`. -/
def lo : ℝ := 8796093 / 2 ^ 43

/-- The lower bound of the clip is positive. -/
theorem lo_pos : 0 < lo := by norm_num [lo]

/-- The lower bound of the clip is below a half. -/
theorem lo_lt_half : lo < 1 / 2 := by norm_num [lo]

/-- The lower bound of the clip is at least `2^-20`. -/
theorem lo_ge : 1 / 2 ^ 20 ≤ lo := by norm_num [lo]

/-- A prediction clipped to `[lo, 1 - lo]`. -/
def clip (x : EReal) : ℝ := (min ((1 - lo : ℝ) : EReal) (max ((lo : ℝ) : EReal) x)).toReal

/-- The clipped prediction as an extended real. -/
theorem clip_coe (x : EReal) : ((clip x : ℝ) : EReal) = min ((1 - lo : ℝ) : EReal) (max ((lo : ℝ) : EReal) x) := by
  unfold clip
  apply EReal.coe_toReal
  · exact ne_of_lt (lt_of_le_of_lt (min_le_left _ _) (EReal.coe_lt_top _))
  · have h1 : ((lo : ℝ) : EReal) ≤ ((1 - lo : ℝ) : EReal) := by
      exact_mod_cast (by have := lo_lt_half; linarith : lo ≤ 1 - lo)
    exact ne_of_gt (lt_of_lt_of_le (EReal.bot_lt_coe lo) (le_min h1 (le_max_left _ _)))

/-- A clipped prediction is at least the lower bound. -/
theorem lo_le_clip (x : EReal) : lo ≤ clip x := by
  have : ((lo : ℝ) : EReal) ≤ ((clip x : ℝ) : EReal) := by
    rw [clip_coe]
    exact le_min (by exact_mod_cast (by have := lo_lt_half; linarith : lo ≤ 1 - lo)) (le_max_left _ _)
  exact_mod_cast this

/-- A clipped prediction is at most the upper bound. -/
theorem clip_le (x : EReal) : clip x ≤ 1 - lo := by
  have : ((clip x : ℝ) : EReal) ≤ ((1 - lo : ℝ) : EReal) := by
    rw [clip_coe]; exact min_le_left _ _
  exact_mod_cast this

/-- A clipped prediction is positive. -/
theorem clip_pos (x : EReal) : 0 < clip x := lt_of_lt_of_le lo_pos (lo_le_clip x)

/-- A clipped prediction is below one. -/
theorem clip_lt_one (x : EReal) : clip x < 1 := by have := clip_le x; have := lo_pos; linarith

/-- Clipping turns with the unit interval: both bounds are the same distance from its ends. -/
theorem clip_one_sub (x : EReal) : clip (1 - x) = 1 - clip x := by
  have h : ((clip (1 - x) : ℝ) : EReal) = ((1 - clip x : ℝ) : EReal) := by
    rw [EReal.coe_sub, clip_coe, clip_coe]
    have hl := lo_lt_half
    induction x with
    | bot =>
      have : (1 : EReal) - ⊥ = ⊤ := rfl
      rw [this, max_eq_right le_top, min_eq_left le_top, max_eq_left bot_le,
        min_eq_right (by exact_mod_cast (by linarith : lo ≤ 1 - lo))]
      norm_cast
    | top =>
      have : (1 : EReal) - ⊤ = ⊥ := rfl
      rw [this, max_eq_left bot_le, max_eq_right le_top, min_eq_left le_top,
        min_eq_right (by exact_mod_cast (by linarith : lo ≤ 1 - lo))]
      norm_cast
      ring
    | coe r =>
      have e : ∀ s : ℝ, min ((1 - lo : ℝ) : EReal) (max ((lo : ℝ) : EReal) (s : EReal)) = ((min (1 - lo) (max lo s) : ℝ) : EReal) := fun s => by
        rw [EReal.coe_strictMono.monotone.map_min, EReal.coe_strictMono.monotone.map_max]
      have e1 : (1 : EReal) - (r : EReal) = ((1 - r : ℝ) : EReal) := by norm_cast
      have e2 : min (1 - lo) (max lo (1 - r)) = 1 - min (1 - lo) (max lo r) := by
        rcases le_total lo r with h1 | h1 <;> rcases le_total r (1 - lo) with h2 | h2
        · rw [max_eq_right (by linarith), max_eq_right h1, min_eq_right (by linarith), min_eq_right h2]
        · rw [max_eq_left (by linarith), max_eq_right h1, min_eq_right (by linarith), min_eq_left h2]; ring
        · rw [max_eq_right (by linarith), max_eq_left h1, min_eq_left (by linarith), min_eq_right (by linarith)]
        · exact absurd h1 (by linarith)
      rw [e1, e, e, e2]
      norm_cast
  exact_mod_cast h

/-- The loss of a negative with clipped prediction `c`, before its weight. -/
def loss (c : ℝ) : ℝ := c ^ 2 * (-Real.log (1 - c))

/-- Minus the logarithm of `1 - c` is at least `c`. -/
theorem neg_log_ge {c : ℝ} (h1 : c < 1) : c ≤ -Real.log (1 - c) := by
  have := Real.log_le_sub_one_of_pos (sub_pos.2 h1)
  linarith

/-- A loss is at least `2^-60`, so that the search meets no subnormal. -/
theorem loss_ge {c : ℝ} (h0 : lo ≤ c) (h1 : c < 1) : 1 / 2 ^ 60 ≤ loss c := by
  have h := neg_log_ge h1
  have hl := lo_ge
  have hc : 1 / 2 ^ 20 ≤ c := hl.trans h0
  have h2 : (1 / 2 ^ 20 : ℝ) ^ 2 ≤ c ^ 2 := pow_le_pow_left₀ (by positivity) hc 2
  unfold loss
  calc (1 / 2 ^ 60 : ℝ) = (1 / 2 ^ 20) ^ 2 * (1 / 2 ^ 20) := by norm_num
    _ ≤ c ^ 2 * (-Real.log (1 - c)) := mul_le_mul h2 (hc.trans h) (by positivity) (by positivity)

/-- A loss is below 32. -/
theorem loss_lt {c : ℝ} (h0 : lo ≤ c) (h1 : c ≤ 1 - lo) : loss c < 32 := by
  have hl := lo_ge
  have hlog : Real.log (1 / 2 ^ 20) ≤ Real.log (1 - c) := Real.log_le_log (by positivity) (by linarith)
  rw [Real.log_div one_ne_zero (by positivity), Real.log_one, Real.log_pow] at hlog
  have h2 : Real.log 2 ≤ 1 := by
    have := Real.log_le_sub_one_of_pos (show (0:ℝ) < 2 by norm_num)
    linarith
  have hp := lo_pos
  have h3 : c ^ 2 ≤ 1 := by nlinarith
  have h4 : 0 ≤ -Real.log (1 - c) := (by linarith : (0:ℝ) ≤ c).trans (neg_log_ge (by linarith))
  have h5 : -Real.log (1 - c) ≤ 20 := by push_cast at hlog; linarith
  unfold loss
  nlinarith [sq_nonneg c]

/-- Predictions apart by the factor `1 - 2^-24` have losses apart by its square. -/
theorem loss_apart {c c' : ℝ} (h0 : 0 < c') (h : c' ≤ (1 - 1 / 2 ^ 24) * c) (h1 : c < 1) :
    loss c' ≤ (1 - 1 / 2 ^ 24) ^ 2 * loss c := by
  have hc : 0 < c := by
    by_contra hn
    have : (1 - 1 / 2 ^ 24 : ℝ) * c ≤ 0 := mul_nonpos_of_nonneg_of_nonpos (by norm_num) (not_lt.1 hn)
    linarith
  have hle : c' ≤ c := h.trans (by nlinarith)
  have hlog : -Real.log (1 - c') ≤ -Real.log (1 - c) := neg_le_neg (Real.log_le_log (by linarith) (by linarith))
  have hsq : c' ^ 2 ≤ (1 - 1 / 2 ^ 24) ^ 2 * c ^ 2 := by
    rw [← mul_pow]; exact pow_le_pow_left₀ h0.le h 2
  have h4 : 0 ≤ -Real.log (1 - c') := h0.le.trans (neg_log_ge (by linarith))
  unfold loss
  rw [← mul_assoc]
  exact mul_le_mul hsq hlog h4 (by positivity)

/-! ## Sums of the greatest values -/

/-- Two sets of the same number of greatest values have the same sum. -/
theorem sum_greatest {ι : Type} [DecidableEq ι] (w : ι → ℝ) (S T : Finset ι) (hc : S.card = T.card)
    (hS : ∀ i ∈ S, ∀ j, j ∉ S → w j ≤ w i) (hT : ∀ i ∈ T, ∀ j, j ∉ T → w j ≤ w i) :
    ∑ i ∈ S, w i = ∑ i ∈ T, w i := by
  have hd : (S \ T).card = (T \ S).card := by
    have h1 := Finset.card_sdiff_add_card_inter S T
    have h2 := Finset.card_sdiff_add_card_inter T S
    rw [Finset.inter_comm T S] at h2
    omega
  have e1 := Finset.sum_sdiff (f := w) (Finset.inter_subset_left (s₁ := S) (s₂ := T))
  have e2 := Finset.sum_sdiff (f := w) (Finset.inter_subset_right (s₁ := S) (s₂ := T))
  rw [Finset.sdiff_inter_self_left] at e1
  rw [Finset.sdiff_inter_self_right] at e2
  rw [← e1, ← e2]
  congr 1
  rcases Finset.eq_empty_or_nonempty (T \ S) with h | ⟨j0, hj0⟩
  · rw [h, Finset.card_empty, Finset.card_eq_zero] at hd
    rw [h, hd]
  · have hpos : 0 < (S \ T).card := by rw [hd]; exact Finset.card_pos.2 ⟨j0, hj0⟩
    obtain ⟨i0, hi0⟩ := Finset.card_pos.1 hpos
    rw [Finset.mem_sdiff] at hj0 hi0
    have a1 : ∀ i ∈ S \ T, w i = w j0 := fun i hi => by
      rw [Finset.mem_sdiff] at hi
      exact le_antisymm (hT j0 hj0.1 i hi.2) (hS i hi.1 j0 hj0.2)
    have a2 : ∀ j ∈ T \ S, w j = w j0 := fun j hj => by
      rw [Finset.mem_sdiff] at hj
      have b1 : w j = w i0 := le_antisymm (hS i0 hi0.1 j hj.2) (hT j hj.1 i0 hi0.2)
      rw [b1, a1 i0 (Finset.mem_sdiff.2 hi0)]
    rw [Finset.sum_congr rfl a1, Finset.sum_congr rfl a2, Finset.sum_const, Finset.sum_const, hd]

/-- The first `n` of a family in descending order sum to what any `n` greatest of it sum to. -/
theorem sum_prefix {N : ℕ} (w : Fin N → ℝ) (σ : Fin N → Fin N) (hσ : Function.Injective σ)
    (hd : ∀ a b, a ≤ b → w (σ b) ≤ w (σ a)) (n : ℕ) (hn : n ≤ N) (T : Finset (Fin N)) (hc : T.card = n)
    (hT : ∀ i ∈ T, ∀ j, j ∉ T → w j ≤ w i) :
    ∑ k : Fin N with k.val < n, w (σ k) = ∑ i ∈ T, w i := by
  have hcard : (Finset.univ.filter fun k : Fin N => k.val < n).card = n := by
    rw [Fin.card_filter_val_lt]; omega
  rw [← Finset.sum_image (s := Finset.univ.filter fun k : Fin N => k.val < n) (g := σ) (f := w) (fun a _ b _ h => hσ h)]
  apply sum_greatest w _ T _ _ hT
  · rw [Finset.card_image_of_injective _ hσ, hcard, hc]
  · intro i hi j hj
    obtain ⟨a, ha, rfl⟩ := Finset.mem_image.1 hi
    obtain ⟨b, rfl⟩ := (Finite.injective_iff_surjective.1 hσ) j
    have hb : ¬ b.val < n := fun h => hj (Finset.mem_image.2 ⟨b, by simpa using h, rfl⟩)
    have ha' : a.val < n := by simpa using ha
    exact hd a b (Fin.le_def.2 (by omega))

/-! ## The threshold form -/

section Threshold

variable {ι : Type} [Fintype ι]

/-- How many of the masked values reach a pattern's value: at least `n` of them. -/
def Reaches (xm : ι → ℝ) (n : ℕ) (b : ℕ) : Prop := n ≤ (Finset.univ.filter fun i => patVal b ≤ xm i).card

/-- Whether a pattern's value is reached often enough can be decided. -/
instance (xm : ι → ℝ) (n : ℕ) : DecidablePred (Reaches xm n) := fun b => by unfold Reaches; infer_instance

/-- What is reached at a pattern is reached at every lesser one. -/
theorem reaches_anti (xm : ι → ℝ) (n a b : ℕ) (hab : a ≤ b) (_ : b < 0x7F800000) (hb : Reaches xm n b) : Reaches xm n a :=
  le_trans hb (Finset.card_le_card fun i hi => by
    simp only [Finset.mem_filter, Finset.mem_univ, true_and] at hi ⊢
    exact (patVal_mono hab).trans hi)

/-- The zero pattern's value is reached by every member of a set of numbers that aren't negative. -/
theorem reaches_zero (xm : ι → ℝ) (T : Finset ι) (h : ∀ i ∈ T, 0 ≤ xm i) : Reaches xm T.card 0 := by
  unfold Reaches
  rw [patVal_zero]
  refine Finset.card_le_card fun i hi => ?_
  simp only [Finset.mem_filter, Finset.mem_univ, true_and]
  exact h i hi

/-- The value 32 isn't reached by numbers below it. -/
theorem not_reaches_top (xm : ι → ℝ) (n : ℕ) (hn : 0 < n) (h : ∀ i, xm i < 32) : ¬ Reaches xm n 0x42000000 := by
  unfold Reaches
  rw [Finset.filter_eq_empty_iff.2, Finset.card_empty]
  · omega
  · intro i _
    rw [patVal_top, not_le]
    exact h i

/-- With the threshold the search finds, what exceeds it and the correction at it are together the
    sum over the `n` greatest, when the others are smaller by the square of `1 - 2^-24`. -/
theorem threshold_sum [DecidableEq ι] (pos : ι → Prop) [DecidablePred pos] (x : ι → ℝ) (n : ℕ) (hn : 0 < n) (T : Finset ι)
    (hc : T.card = n) (hT : ∀ i ∈ T, ¬ pos i) (hlo : ∀ i, ¬ pos i → 1 / 2 ^ 60 ≤ x i) (hhi : ∀ i, x i < 32)
    (hcut : ∀ i ∈ T, ∀ j, j ∉ T → ¬ pos j → x j ≤ (1 - 1 / 2 ^ 24) ^ 2 * x i)
    (xm : ι → ℝ) (hxm : ∀ i, xm i = if pos i then -1 else x i) (v : ℝ)
    (hv : v = patVal (bitSearch (Reaches xm n) 31).toNat) :
    (Finset.univ.filter fun i => v < xm i).card ≤ n ∧
      (∑ i with v < xm i, xm i) + ((n : ℝ) - ((Finset.univ.filter fun i => v < xm i).card : ℝ)) * v = ∑ i ∈ T, x i := by
  have hxn : ∀ i, ¬ pos i → xm i = x i := fun i h => by rw [hxm, if_neg h]
  have hxp : ∀ i, pos i → xm i = -1 := fun i h => by rw [hxm, if_pos h]
  obtain ⟨h1, h2, h3⟩ := bitSearch_spec (A := Reaches xm n) (reaches_anti xm n)
    (hc ▸ reaches_zero xm T fun i hi => by
      rw [hxn i (hT i hi)]
      exact le_trans (by positivity) (hlo i (hT i hi)))
    (not_reaches_top xm n hn fun i => by
      rw [hxm]
      split_ifs
      · norm_num
      · exact hhi i)
  set r := (bitSearch (Reaches xm n) 31).toNat
  have hv0 : 0 ≤ v := hv ▸ patVal_nonneg r
  -- one of the greatest lies below the next pattern
  obtain ⟨i₁, hi₁, hlt₁⟩ : ∃ i ∈ T, x i < patVal (r + 1) := by
    by_contra hno
    push Not at hno
    apply h2
    unfold Reaches
    rw [← hc]
    refine Finset.card_le_card fun i hi => ?_
    simp only [Finset.mem_filter, Finset.mem_univ, true_and]
    rw [hxn i (hT i hi)]
    exact hno i hi
  -- all of the greatest reach the threshold
  have hge : ∀ i ∈ T, v ≤ x i := by
    intro i hi
    by_contra hno
    rw [not_le] at hno
    have hsub : ¬ (Finset.univ.filter fun j => patVal r ≤ xm j) ⊆ T.erase i := by
      intro hs
      have := Finset.card_le_card hs
      rw [Finset.card_erase_of_mem hi, hc] at this
      unfold Reaches at h1
      omega
    rw [Finset.subset_iff] at hsub
    push Not at hsub
    obtain ⟨j, hj, hjT⟩ := hsub
    simp only [Finset.mem_filter, Finset.mem_univ, true_and] at hj
    rw [← hv] at hj
    rw [Finset.mem_erase, not_and_or, not_not] at hjT
    have hpi := hlo i (hT i hi)
    rcases hjT with rfl | hjT
    · rw [hxn j (hT j hi)] at hj
      linarith
    · by_cases hpj : pos j
      · rw [hxp j hpj] at hj
        linarith
      · rw [hxn j hpj] at hj
        have h5 := hcut i hi j hjT hpj
        have h6 : 0 < x i := lt_of_lt_of_le (by positivity) hpi
        nlinarith
  -- the threshold is no subnormal
  have hr : 2 ^ 23 ≤ r := by
    by_contra hno
    have h4 := patVal_mono (show r + 1 ≤ 2 ^ 23 + 1 by omega)
    have h5 := patVal_small
    have h6 := hlo i₁ (hT i₁ hi₁)
    exact absurd ((hlt₁.trans_le h4).trans h5) (not_lt.2 h6)
  have hnext := patVal_succ_le r hr
  rw [← hv] at hnext
  -- every other value lies below the threshold
  have hbelow : ∀ j, j ∉ T → xm j < v := by
    intro j hj
    have hvi := hge i₁ hi₁
    have hpi := hlo i₁ (hT i₁ hi₁)
    have hvpos : 0 < v := by
      have : (0 : ℝ) < 1 / 2 ^ 60 := by positivity
      nlinarith
    by_cases hpj : pos j
    · rw [hxp j hpj]; linarith
    · rw [hxn j hpj]
      have h5 := hcut i₁ hi₁ j hj hpj
      have h6 : x i₁ < (1 + 1 / 2 ^ 23) * v := lt_of_lt_of_le hlt₁ hnext
      norm_num at h5 h6 ⊢
      linarith
  have hfil : (Finset.univ.filter fun i => v < xm i) = T.filter fun i => v < x i := by
    ext i
    simp only [Finset.mem_filter, Finset.mem_univ, true_and]
    constructor
    · intro h
      have hiT : i ∈ T := by
        by_contra hn
        exact absurd (hbelow i hn) (not_lt.2 h.le)
      exact ⟨hiT, by rwa [hxn i (hT i hiT)] at h⟩
    · rintro ⟨hiT, h⟩
      rwa [hxn i (hT i hiT)]
  rw [hfil]
  refine ⟨hc ▸ Finset.card_filter_le _ _, ?_⟩
  rw [Finset.sum_congr rfl (fun i hi => hxn i (hT i (Finset.mem_filter.1 hi).1))]
  rw [← Finset.sum_filter_add_sum_filter_not T (fun i => v < x i) x]
  congr 1
  have hq : ∀ i ∈ T.filter (fun i => ¬ v < x i), x i = v := fun i hi => by
    rw [Finset.mem_filter, not_lt] at hi
    exact le_antisymm hi.2 (hge i hi.1)
  rw [Finset.sum_congr rfl hq, Finset.sum_const, nsmul_eq_mul]
  congr 1
  have := Finset.card_filter_add_card_filter_not (s := T) (fun i => v < x i)
  rw [hc] at this
  rw [← this]
  push_cast
  ring

end Threshold

end Cert.Row

end
-- ==== Proof.Words.lean ====
/-
  The programs' literals as extended reals, and their counters: 32-bit words that hold small natural numbers.
-/
module

public import proofs.«01_k».proof.Proof.RowMath
public import Idealize.ShloMosaic.Lib.Pointwise
public import Idealize.ShloMosaic.Lib.IndicatorCount

@[expose] public section

noncomputable section

namespace Cert.Row

open Idealize.ShloMosaic

/-- The word of the clip's lower bound. -/
theorem bits_lo : Ideal.ofBits .f32 0x358637BD#32 = ((lo : ℝ) : EReal) := by
  simp [Ideal.ofBits, Ideal.ieee, lo, -EReal.coe_mul]; norm_num

/-- The word of a half. -/
theorem bits_half : Ideal.ofBits .f32 0x3F000000#32 = ((1 / 2 : ℝ) : EReal) := by
  simp [Ideal.ofBits, Ideal.ieee, -EReal.coe_mul]; norm_num

/-- The word of minus one. -/
theorem bits_neg_one : Ideal.ofBits .f32 0xBF800000#32 = ((-1 : ℝ) : EReal) := by
  simp [Ideal.ofBits, Ideal.ieee, -EReal.coe_mul]; norm_num

/-- The word of two. -/
theorem bits_two : Ideal.ofBits .f32 0x40000000#32 = ((2 : ℝ) : EReal) := by
  simp [Ideal.ofBits, Ideal.ieee, -EReal.coe_mul]; norm_num

/-- The word of minus three quarters. -/
theorem bits_neg_three_quarters : Ideal.ofBits .f32 0xBF400000#32 = ((-(3 / 4) : ℝ) : EReal) := by
  simp [Ideal.ofBits, Ideal.ieee, -EReal.coe_mul]; norm_num

/-- The word of minus a quarter. -/
theorem bits_neg_quarter : Ideal.ofBits .f32 0xBE800000#32 = ((-(1 / 4) : ℝ) : EReal) := by
  simp [Ideal.ofBits, Ideal.ieee, -EReal.coe_mul]; norm_num

/-- The word of three quarters. -/
theorem bits_three_quarters : Ideal.ofBits .f32 0x3F400000#32 = ((3 / 4 : ℝ) : EReal) := by
  simp [Ideal.ofBits, Ideal.ieee, -EReal.coe_mul]; norm_num

/-- The word of a quarter. -/
theorem bits_quarter : Ideal.ofBits .f32 0x3E800000#32 = ((1 / 4 : ℝ) : EReal) := by
  simp [Ideal.ofBits, Ideal.ieee, -EReal.coe_mul]; norm_num

/-- The word of `1/128`. -/
theorem bits_inv128 : Ideal.ofBits .f32 0x3C000000#32 = ((1 / 128 : ℝ) : EReal) := by
  simp [Ideal.ofBits, Ideal.ieee, -EReal.coe_mul]; norm_num

/-- The word of 128. -/
theorem bits_128 : Ideal.ofBits .f32 0x43000000#32 = ((128 : ℝ) : EReal) := by
  simp [Ideal.ofBits, Ideal.ieee, -EReal.coe_mul]; norm_num

/-- The word of plus infinity. -/
theorem bits_top : Ideal.ofBits .f32 0x7F800000#32 = ⊤ := by
  simp [Ideal.ofBits, Ideal.ieee]

/-- The word of `1 - 2^-24`. -/
theorem bits_apart : Ideal.ofBits .f32 0x3F7FFFFF#32 = ((1 - 1 / 2 ^ 24 : ℝ) : EReal) := by
  simp [Ideal.ofBits, Ideal.ieee, -EReal.coe_mul, -EReal.coe_sub]; norm_num
/-- The fill for positives in the reference's sort: below every negated loss. -/
theorem bits_fill : ∃ r : ℝ, r < 0 ∧ Ideal.ofBits .f32 0xF149F2CA#32 = (r : EReal) := by
  refine ⟨_, ?_, by simp [Ideal.ofBits, Ideal.ieee, -EReal.coe_mul]; rfl⟩
  norm_num

/-! ## Counters -/

/-- A small natural number's word reads back as that number. -/
theorem toInt_ofNat (a : ℕ) (h : a < 2 ^ 31) : (BitVec.ofNat 32 a).toInt = a := by
  have e := BitVec.toInt_eq_toNat_cond (BitVec.ofNat 32 a)
  rw [BitVec.toNat_ofNat, Nat.mod_eq_of_lt (by omega), if_pos (by omega)] at e
  exact e

/-- Equality of the words of small numbers. -/
theorem cmpi_eq_ofNat (a b : ℕ) (ha : a < 2 ^ 31) (hb : b < 2 ^ 31) :
    IntOp.cmpi .eq (BitVec.ofNat 32 a) (BitVec.ofNat 32 b) = BitVec.ofBool (decide (a = b)) := by
  unfold IntOp.cmpi
  congr 1
  rw [Bool.eq_iff_iff]
  simp only [beq_iff_eq, decide_eq_true_eq]
  constructor
  · intro h
    have := congrArg BitVec.toNat h
    simp only [BitVec.toNat_ofNat] at this
    omega
  · rintro rfl; rfl

/-- Inequality of the words of small numbers. -/
theorem cmpi_ne_ofNat (a b : ℕ) (ha : a < 2 ^ 31) (hb : b < 2 ^ 31) :
    IntOp.cmpi .ne (BitVec.ofNat 32 a) (BitVec.ofNat 32 b) = BitVec.ofBool (decide (a ≠ b)) := by
  have h := cmpi_eq_ofNat a b ha hb
  unfold IntOp.cmpi at h ⊢
  have h' := congrArg (fun w : BitVec 1 => w = 1#1) h
  congr 1
  rw [Bool.eq_iff_iff]
  simp only [bne_iff_ne, decide_eq_true_eq, ne_eq, not_iff_not]
  rw [← beq_iff_eq (a := BitVec.ofNat 32 a)]
  by_cases hab : a = b <;> simp [hab] at h ⊢
  cases hh : (BitVec.ofNat 32 a == BitVec.ofNat 32 b)
  · simpa using hh
  · rw [hh] at h; exact absurd h (by decide)

/-- The signed `≤` of the words of small numbers. -/
theorem cmpi_sle_ofNat (a b : ℕ) (ha : a < 2 ^ 31) (hb : b < 2 ^ 31) :
    IntOp.cmpi .sle (BitVec.ofNat 32 a) (BitVec.ofNat 32 b) = BitVec.ofBool (decide (a ≤ b)) := by
  unfold IntOp.cmpi
  congr 1
  rw [Bool.eq_iff_iff, BitVec.sle_iff_toInt_le, toInt_ofNat a ha, toInt_ofNat b hb]
  simp

/-- The signed `≥` of the words of small numbers. -/
theorem cmpi_sge_ofNat (a b : ℕ) (ha : a < 2 ^ 31) (hb : b < 2 ^ 31) :
    IntOp.cmpi .sge (BitVec.ofNat 32 a) (BitVec.ofNat 32 b) = BitVec.ofBool (decide (b ≤ a)) :=
  cmpi_sle_ofNat b a hb ha

/-- The signed `<` of the words of small numbers. -/
theorem cmpi_slt_ofNat (a b : ℕ) (ha : a < 2 ^ 31) (hb : b < 2 ^ 31) :
    IntOp.cmpi .slt (BitVec.ofNat 32 a) (BitVec.ofNat 32 b) = BitVec.ofBool (decide (a < b)) := by
  unfold IntOp.cmpi
  congr 1
  rw [Bool.eq_iff_iff, BitVec.slt_iff_toInt_lt, toInt_ofNat a ha, toInt_ofNat b hb]
  simp

/-- The signed `>` of the words of small numbers. -/
theorem cmpi_sgt_ofNat (a b : ℕ) (ha : a < 2 ^ 31) (hb : b < 2 ^ 31) :
    IntOp.cmpi .sgt (BitVec.ofNat 32 a) (BitVec.ofNat 32 b) = BitVec.ofBool (decide (b < a)) :=
  cmpi_slt_ofNat b a hb ha

/-- The lesser of the words of two small numbers. -/
theorem minsi_ofNat (a b : ℕ) (ha : a < 2 ^ 31) (hb : b < 2 ^ 31) :
    IntOp.minsi (BitVec.ofNat 32 a) (BitVec.ofNat 32 b) = BitVec.ofNat 32 (min a b) := by
  unfold IntOp.minsi
  have h : (BitVec.ofNat 32 a).slt (BitVec.ofNat 32 b) = decide (a < b) := by
    rw [Bool.eq_iff_iff, BitVec.slt_iff_toInt_lt, toInt_ofNat a ha, toInt_ofNat b hb]
    simp
  rw [h]
  by_cases hab : a < b
  · rw [min_eq_left hab.le]; simp [hab]
  · rw [min_eq_right (not_lt.1 hab)]; simp [hab]

/-- The product of words. -/
theorem muli_ofNat (a b : ℕ) : IntOp.muli (BitVec.ofNat 32 a) (BitVec.ofNat 32 b) = BitVec.ofNat 32 (a * b) :=
  (BitVec.ofNat_mul a b).symm

/-- The sum of words. -/
theorem addi_ofNat (a b : ℕ) : IntOp.addi (BitVec.ofNat 32 a) (BitVec.ofNat 32 b) = BitVec.ofNat 32 (a + b) :=
  (BitVec.ofNat_add a b).symm

/-- The difference of words, the lesser taken from the greater. -/
theorem subi_ofNat (a b : ℕ) (h : b ≤ a) : IntOp.subi (BitVec.ofNat 32 a) (BitVec.ofNat 32 b) = BitVec.ofNat 32 (a - b) := by
  show BitVec.ofNat 32 a - BitVec.ofNat 32 b = _
  apply BitVec.eq_of_toNat_eq
  rw [BitVec.toNat_sub, BitVec.toNat_ofNat, BitVec.toNat_ofNat, BitVec.toNat_ofNat]
  omega

/-- A small number's word as a float is that number. -/
theorem sitofp_ofNat (a : ℕ) (h : a < 2 ^ 31) :
    FloatOps.sitofp (F := Ideal) .f32 (BitVec.ofNat 32 a) = (((a : ℕ) : ℝ) : EReal) := by
  show ((((BitVec.ofNat 32 a).toInt : ℤ) : ℝ) : EReal) = _
  rw [toInt_ofNat a h]; norm_cast

/-- A small natural number as a float goes back to its word. -/
theorem fptosi_natCast (a : ℕ) (h : a < 2 ^ 31) :
    FloatOps.fptosi (F := Ideal) (φ := .f32) 32 (((a : ℕ) : ℝ) : EReal) = BitVec.ofNat 32 a := by
  show Ideal.fptosi 32 _ = _
  unfold Ideal.fptosi
  rw [Ideal.toIntClamped_coe, if_pos (Nat.cast_nonneg a), Int.floor_natCast, min_eq_right (by norm_num; omega),
    max_eq_right (by norm_num)]
  rfl

/-- A selection by a bit made of a truth value. -/
theorem select_ofBool {α : Type} (b : Bool) (x y : α) : Scalar.select (BitVec.ofBool b) x y = if b = true then x else y := by
  cases b <;> rfl

/-- The disjunction of two bits made of truth values. -/
theorem ori_ofBool (a b : Bool) : IntOp.ori (BitVec.ofBool a) (BitVec.ofBool b) = BitVec.ofBool (a || b) := by
  cases a <;> cases b <;> rfl

/-- A sum of widened comparison bits is the number of the true ones. -/
theorem fold_count {ι : Type} [Fintype ι] (q : ι → Prop) [DecidablePred q] :
    Finset.fold IntOp.addi (0#32) (fun k => BitVec.setWidth 32 (BitVec.ofBool (decide (q k)))) (Finset.univ : Finset ι)
      = BitVec.ofNat 32 (Finset.univ.filter q).card := by
  rw [IndicatorCount.fold_addi_setWidth_eq_card]
  congr 2
  ext k
  simp only [Finset.mem_filter, Finset.mem_univ, true_and]
  by_cases h : q k <;> simp [h]

/-! ## The specification of a row -/

section Spec

variable (p t : Fin 32768 → EReal)

/-- The element is a positive: its target is one. -/
def Pos (i : Fin 32768) : Prop := t i = 1

/-- Whether an element is a positive can be decided. -/
instance : DecidablePred (Pos t) := fun i => inferInstanceAs (Decidable (t i = 1))

/-- Every target is zero or one. -/
def Binary : Prop := ∀ i, t i = 0 ∨ t i = 1

/-- The number of positives. -/
def nPos : ℕ := (Finset.univ.filter (Pos t)).card

/-- The number of negatives. -/
def nNeg : ℕ := 32768 - nPos t

/-- The number of hard negatives: ten for each positive, but no more than there are negatives. -/
def nHard : ℕ := min (nPos t * 10) (nNeg t)

/-- A row has at most as many positives as places. -/
theorem nPos_le : nPos t ≤ 32768 := (Finset.card_le_univ _).trans (by simp)

/-- The negatives are as many as the places less the positives. -/
theorem card_neg : (Finset.univ.filter fun i => ¬ Pos t i).card = nNeg t := by
  have := Finset.card_filter_add_card_filter_not (s := (Finset.univ : Finset (Fin 32768))) (Pos t)
  rw [Finset.card_univ, Fintype.card_fin] at this
  unfold nNeg nPos
  omega

/-- The unweighted loss of an element. -/
def val (i : Fin 32768) : ℝ := if Pos t i then loss (1 - clip (p i)) else loss (clip (p i))

/-- The sum of the positives' losses. -/
def sumPos : ℝ := ∑ i with Pos t i, val p t i

/-- The sum of the negatives' losses. -/
def sumNeg : ℝ := ∑ i with ¬ Pos t i, val p t i

/-- A set of hard negatives: as many as are wanted, all negative, each with a prediction greater than any other
    negative's by the factor `1 - 2^-24`. -/
structure IsHard (T : Finset (Fin 32768)) : Prop where
  card : T.card = nHard t
  neg : ∀ i ∈ T, ¬ Pos t i
  apart : ∀ i ∈ T, ∀ j, j ∉ T → ¬ Pos t j → clip (p j) ≤ (1 - 1 / 2 ^ 24) * clip (p i)

/-- The row's loss, given its hard negatives. -/
def rowOut (T : Finset (Fin 32768)) : ℝ :=
  if 0 < nPos t then (3 / 4 * sumPos p t + 1 / 4 * ∑ i ∈ T, val p t i) / max ((nPos t + nHard t : ℕ) : ℝ) 1
  else 1 / 4 * sumNeg p t / max ((nNeg t : ℕ) : ℝ) 1

/-- The row's loss as a quotient of extended reals. -/
theorem rowOut_coe (T : Finset (Fin 32768)) :
    ((rowOut p t T : ℝ) : EReal)
      = if decide (0 < nPos t) = true then
          Ideal.div (((3 / 4 * sumPos p t : ℝ) : EReal) + ((1 / 4 * ∑ i ∈ T, val p t i : ℝ) : EReal)) (max (((nPos t + nHard t : ℕ) : ℝ) : EReal) 1)
        else Ideal.div ((1 / 4 * sumNeg p t : ℝ) : EReal) (max (((nNeg t : ℕ) : ℝ) : EReal) 1) := by
  have hmax : ∀ a : ℝ, max (a : EReal) 1 = ((max a 1 : ℝ) : EReal) := fun a => by
    rw [EReal.coe_strictMono.monotone.map_max]; rfl
  have hne : ∀ a : ℝ, max a 1 ≠ 0 := fun a => ne_of_gt (lt_of_lt_of_le one_pos (le_max_right a 1))
  have hdiv : ∀ a b : ℝ, Ideal.div (a : EReal) ((max b 1 : ℝ) : EReal) = ((a / max b 1 : ℝ) : EReal) := fun a b => by
    rw [Ideal.div_coe (hne b), ← EReal.coe_mul, mul_one_div]
  rw [hmax, hmax, ← EReal.coe_add, hdiv, hdiv]
  unfold rowOut
  simp only [decide_eq_true_eq]
  split_ifs <;> rfl

variable {p t}

/-- A negative's loss. -/
theorem val_neg {i : Fin 32768} (h : ¬ Pos t i) : val p t i = loss (clip (p i)) := if_neg h

/-- A positive's loss. -/
theorem val_pos {i : Fin 32768} (h : Pos t i) : val p t i = loss (1 - clip (p i)) := if_pos h

/-- A value is at least `2^-60`. -/
theorem val_ge (i : Fin 32768) : 1 / 2 ^ 60 ≤ val p t i := by
  unfold val
  have h1 := lo_le_clip (p i)
  have h2 := clip_le (p i)
  have h3 := lo_pos
  split_ifs
  · exact loss_ge (by linarith) (by linarith)
  · exact loss_ge h1 (by linarith)

/-- A value is below 32. -/
theorem val_lt (i : Fin 32768) : val p t i < 32 := by
  unfold val
  have h1 := lo_le_clip (p i)
  have h2 := clip_le (p i)
  split_ifs
  · exact loss_lt (by linarith) (by linarith)
  · exact loss_lt h1 h2

/-- A hard negative's loss is apart from every other negative's by a factor. -/
theorem IsHard.val_apart {T : Finset (Fin 32768)} (h : IsHard p t T) (i : Fin 32768) (hi : i ∈ T) (j : Fin 32768) (hj : j ∉ T)
    (hn : ¬ Pos t j) : val p t j ≤ (1 - 1 / 2 ^ 24) ^ 2 * val p t i := by
  rw [val_neg hn, val_neg (h.neg i hi)]
  exact loss_apart (clip_pos _) (h.apart i hi j hj hn) (clip_lt_one _)

/-- When all negatives are hard the hard ones are all of them. -/
theorem IsHard.eq_neg {T : Finset (Fin 32768)} (h : IsHard p t T) (he : nHard t = nNeg t) :
    T = Finset.univ.filter fun i => ¬ Pos t i := by
  apply Finset.eq_of_subset_of_card_le
  · intro i hi
    simpa using h.neg i hi
  · rw [card_neg, h.card, he]

/-- Without hard negatives their set is empty. -/
theorem IsHard.eq_empty {T : Finset (Fin 32768)} (h : IsHard p t T) (he : nHard t = 0) : T = ∅ :=
  Finset.card_eq_zero.1 (h.card.trans he)

end Spec

end Cert.Row

end
-- ==== Proof.KernelRows.lean ====
/-
  What one block of the idealized kernel holds, row by row: the counts of positives, negatives and hard negatives,
  the sums over positives and negatives, and the condition under which a row needs no search.
-/
module

public import proofs.«01_k».proof.Proof.Body
public import proofs.«01_k».proof.Proof.Words
public import Idealize.ShloMosaic.Lib.Pointwise

@[expose] public section

set_option maxRecDepth 16384

noncomputable section

namespace Cert.Row

open Idealize.ShloMosaic

/-- The focal term `(1 - q)² log q` of an element, `q` the clipped probability of its target. -/
def term (p t : EReal) : EReal :=
  let q := min (1 - Ideal.ofBits .f32 0x358637BD#32) (max (Ideal.ofBits .f32 0x358637BD#32)
    (if Ideal.ofBits .f32 0x3F000000#32 ≤ t then p else 1 - p))
  (1 - q) * (1 - q) * Ideal.log q

/-- A target of zero or one is at least a half exactly when it is one. -/
theorem half_le_iff {t : EReal} (ht : t = 0 ∨ t = 1) : Ideal.ofBits .f32 0x3F000000#32 ≤ t ↔ t = 1 := by
  rw [bits_half]
  rcases ht with rfl | rfl
  · have h1 : ¬ (((1 / 2 : ℝ) : EReal) ≤ 0) := by
      rw [not_le]; exact_mod_cast (by norm_num : (0 : ℝ) < 1 / 2)
    simp [h1]
  · have h1 : ((1 / 2 : ℝ) : EReal) ≤ 1 := by exact_mod_cast (by norm_num : (1 / 2 : ℝ) ≤ 1)
    exact iff_of_true h1 rfl

/-- One less the lower bound of the clip, taken as reals. -/
theorem one_sub_lo : (1 : EReal) - Ideal.ofBits .f32 0x358637BD#32 = ((1 - lo : ℝ) : EReal) := by
  rw [bits_lo]; norm_cast

/-- A focal term is the negated loss. -/
theorem term_coe (p t : EReal) (ht : t = 0 ∨ t = 1) :
    term p t = ((-(if t = 1 then loss (1 - clip p) else loss (clip p)) : ℝ) : EReal) := by
  have key : ∀ c : ℝ, 0 < c → (1 - (c : EReal)) * (1 - (c : EReal)) * Ideal.log (c : EReal) = ((-loss (1 - c) : ℝ) : EReal) := by
    intro c hc
    rw [Ideal.log_coe, if_neg (not_le.2 hc)]
    norm_cast
    unfold loss
    rw [show 1 - (1 - c) = c by ring]
    ring
  unfold term
  simp only [half_le_iff ht]
  rw [one_sub_lo, bits_lo, ← clip_coe]
  by_cases h : t = 1
  · rw [if_pos h, if_pos h, key _ (clip_pos p)]
  · rw [if_neg h, if_neg h, key _ (clip_pos _), clip_one_sub]
    congr 3
    ring

/-- A sum over chunks and columns within a chunk is the sum over all columns. -/
theorem sum_chunks {M : Type} [AddCommMonoid M] (f : Fin 32768 → M) :
    ∑ j : Fin 512, ∑ c ∈ Finset.range 64, f ⟨512 * (c % 64) + j.val, by have := Nat.mod_lt c (show 0 < 64 by decide); omega⟩
      = ∑ k : Fin 32768, f k := by
  rw [Finset.sum_comm, Finset.sum_range]
  rw [← Finset.sum_product']
  refine Finset.sum_bij (fun (x : Fin 64 × Fin 512) _ => (⟨512 * x.1.val + x.2.val, by omega⟩ : Fin 32768)) ?_ ?_ ?_ ?_
  · intro _ _; exact Finset.mem_univ _
  · rintro ⟨a, b⟩ _ ⟨a', b'⟩ _ h
    have := congrArg Fin.val h
    simp only at this
    exact Prod.ext (Fin.ext (by simp only; omega)) (Fin.ext (by simp only; omega))
  · intro k _
    exact ⟨(⟨k.val / 512, by omega⟩, ⟨k.val % 512, by omega⟩), Finset.mem_univ _, Fin.ext (by simp only; omega)⟩
  · rintro ⟨a, b⟩ _
    congr 2
    simp only
    rw [Nat.mod_eq_of_lt a.isLt]

/-- A finite sum of reals is the same taken among the extended reals. -/
theorem sum_coe {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- The targets of a row add up to the number of its positives. -/
theorem sum_targets (t : Fin 32768 → EReal) (ht : Binary t) : ∑ k, t k = (((nPos t : ℕ) : ℝ) : EReal) := by
  have e : ∀ k, t k = ((if Pos t k then 1 else 0 : ℝ) : EReal) := fun k => by
    by_cases h : Pos t k
    · rw [if_pos h]; exact h.trans (by norm_cast)
    · rw [if_neg h]; exact ((ht k).resolve_right h).trans (by norm_cast)
  rw [Finset.sum_congr rfl fun k _ => e k, sum_coe]
  refine congrArg (fun x : ℝ => (x : EReal)) ?_
  rw [Finset.sum_ite, Finset.sum_const_zero, add_zero, Finset.sum_const, nsmul_eq_mul, mul_one]
  rfl

/-- The focal terms of a row add up to minus the losses of its positives and negatives together. -/
theorem sum_terms (p t : Fin 32768 → EReal) (ht : Binary t) :
    ∑ k, term (p k) (t k) = ((-(sumPos p t + sumNeg p t) : ℝ) : EReal) := by
  rw [Finset.sum_congr rfl fun k _ => term_coe (p k) (t k) (ht k), sum_coe]
  refine congrArg (fun x : ℝ => (x : EReal)) ?_
  rw [Finset.sum_neg_distrib]
  refine congrArg (fun x : ℝ => -x) ?_
  exact (Finset.sum_filter_add_sum_filter_not Finset.univ (Pos t) (val p t)).symm

/-- The focal terms weighted by the targets add up to minus the losses of the positives. -/
theorem sum_weighted (p t : Fin 32768 → EReal) (ht : Binary t) :
    ∑ k, t k * term (p k) (t k) = ((-sumPos p t : ℝ) : EReal) := by
  have e : ∀ k, t k * term (p k) (t k) = ((-(if Pos t k then val p t k else 0) : ℝ) : EReal) := fun k => by
    by_cases h : Pos t k
    · rw [if_pos h, term_coe _ _ (ht k)]
      have h1 : t k = 1 := h
      rw [h1, one_mul]
      simp only [val, if_pos h, if_true]
    · rw [if_neg h, (ht k).resolve_right h]; simp
  rw [Finset.sum_congr rfl fun k _ => e k, sum_coe]
  refine congrArg (fun x : ℝ => (x : EReal)) ?_
  rw [Finset.sum_neg_distrib, Finset.sum_ite, Finset.sum_const_zero, add_zero]
  rfl

end Cert.Row

namespace Cert.KernelIdeal.Hand

open Cert.KernelIdeal Cert.KernelIdeal.Gen Cert.Row
open Idealize.ShloMosaic

/-- One place of a chunk's focal terms. -/
theorem pay8_apply (t p : Vec Ideal S32x512 .f32) (r : Fin 32) (j : Fin 512) :
    k0_pay8 (F := Ideal) t p (ix2 r j) = term (p (ix2 r j)) (t (ix2 r j)) := by
  pointwise [k0_pay8, k0_pay7]
  rfl

/-- A chunk's place `j` is the row's place `512 k + j`. -/
theorem chunk_apply (x : Vec Ideal S32x32768 .f32) (k : ℕ) (r : Fin 32) (j : Fin 512) :
    chunk (F := Ideal) x k (ix2 r j) = x (ix2 r ⟨512 * (k % 64) + j.val, by have := Nat.mod_lt k (show 0 < 64 by decide); omega⟩) := by
  unfold chunk VecWindow.window
  congr 1
  funext a
  apply Fin.ext
  fin_cases a
  · show 0 + 1 * r.val = r.val; omega
  · show 512 * (k % 64) + 1 * j.val = 512 * (k % 64) + j.val; omega

/-- The window over the whole block is the block. -/
theorem full_eq (x : Vec Ideal S32x32768 .f32) : full (F := Ideal) x = x := by
  funext i
  unfold full VecWindow.window
  congr 1
  funext a
  apply Fin.ext
  fin_cases a
  · show 0 + 1 * _ = _; omega
  · show 0 + 1 * _ = _; omega

variable (x1 x2 : Vec Ideal S32x32768 .f32) (r : Fin 32)

/-- A row of a block. -/
def row (x : Vec Ideal S32x32768 .f32) (r : Fin 32) : Fin 32768 → EReal := fun k => x (ix2 r k)

/-- The accumulator of the focal terms after some chunks, place by place. -/
theorem accFr_apply (t p : ℕ → Vec Ideal S32x512 .f32) (n : ℕ) (j : Fin 512) :
    accFr (F := Ideal) t p n (ix2 r j) = ∑ c ∈ Finset.range n, term (p c (ix2 r j)) (t c (ix2 r j)) := by
  induction n with
  | zero => pointwise [accFr]; rfl
  | succ n ih =>
    rw [Finset.sum_range_succ, ← ih, ← pay8_apply]
    rfl

/-- The accumulator of the weighted focal terms after some chunks, place by place. -/
theorem accTfr_apply (t p : ℕ → Vec Ideal S32x512 .f32) (n : ℕ) (j : Fin 512) :
    accTfr (F := Ideal) t p n (ix2 r j) = ∑ c ∈ Finset.range n, t c (ix2 r j) * term (p c (ix2 r j)) (t c (ix2 r j)) := by
  induction n with
  | zero => pointwise [accTfr]; rfl
  | succ n ih =>
    rw [Finset.sum_range_succ, ← ih, ← pay8_apply]
    rfl

/-- The accumulator of the targets after some chunks, place by place. -/
theorem accT_apply (t : ℕ → Vec Ideal S32x512 .f32) (n : ℕ) (j : Fin 512) :
    accT (F := Ideal) t n (ix2 r j) = ∑ c ∈ Finset.range n, t c (ix2 r j) := by
  induction n with
  | zero => pointwise [accT]; rfl
  | succ n ih =>
    rw [Finset.sum_range_succ, ← ih]
    rfl

/-- The row sum of the focal terms over all chunks. -/
theorem sum_accFr : ∑ j : Fin 512, accFr (F := Ideal) (chunk x2) (chunk x1) 64 (ix2 r j) = ∑ k, term (row x1 r k) (row x2 r k) := by
  rw [← sum_chunks]
  refine Finset.sum_congr rfl fun j _ => ?_
  rw [accFr_apply]
  refine Finset.sum_congr rfl fun c _ => ?_
  rw [chunk_apply, chunk_apply]; rfl

/-- The accumulated weighted terms, added along the lanes, are the sum over the row. -/
theorem sum_accTfr : ∑ j : Fin 512, (accTfr (F := Ideal) (chunk x2) (chunk x1) 63 (ix2 r j) + lastTfr (F := Ideal) x1 x2 (ix2 r j))
    = ∑ k, row x2 r k * term (row x1 r k) (row x2 r k) := by
  rw [← sum_chunks]
  refine Finset.sum_congr rfl fun j _ => ?_
  have e : accTfr (F := Ideal) (chunk x2) (chunk x1) 63 (ix2 r j) + lastTfr (F := Ideal) x1 x2 (ix2 r j)
      = accTfr (F := Ideal) (chunk x2) (chunk x1) 64 (ix2 r j) := rfl
  rw [e, accTfr_apply]
  refine Finset.sum_congr rfl fun c _ => ?_
  rw [chunk_apply, chunk_apply]; rfl

/-- The accumulated targets, added along the lanes, are the sum over the row. -/
theorem sum_accT : ∑ j : Fin 512, (accT (F := Ideal) (chunk x2) 63 (ix2 r j) + chunk (F := Ideal) x2 63 (ix2 r j)) = ∑ k, row x2 r k := by
  rw [← sum_chunks]
  refine Finset.sum_congr rfl fun j _ => ?_
  have e : accT (F := Ideal) (chunk x2) 63 (ix2 r j) + chunk (F := Ideal) x2 63 (ix2 r j) = accT (F := Ideal) (chunk x2) 64 (ix2 r j) := rfl
  rw [e, accT_apply]
  refine Finset.sum_congr rfl fun c _ => ?_
  rw [chunk_apply]; rfl

variable (ht : Binary (row x2 r))
include ht

/-- The row's count of positives. -/
theorem posCnt_apply : k0_pay190 (F := Ideal) (accT (chunk x2) 63) (chunk x2 63) (ix2 r 0) = BitVec.ofNat 32 (nPos (row x2 r)) := by
  pointwise [k0_pay190]
  rw [sum_accT, sum_targets _ ht]
  exact fptosi_natCast _ (by have := nPos_le (row x2 r); omega)

/-- The kernel's count of a row's negatives. -/
theorem negCnt_apply : k0_pay193 (F := Ideal) (accT (chunk x2) 63) (chunk x2 63) (ix2 r 0) = BitVec.ofNat 32 (nNeg (row x2 r)) := by
  pointwise [k0_pay193]
  rw [posCnt_apply x2 r ht]
  exact subi_ofNat 32768 _ (nPos_le _)

/-- The kernel's number of hard negatives of a row. -/
theorem nHard_apply : k0_pay194 (F := Ideal) (accT (chunk x2) 63) (chunk x2 63) (ix2 r 0) = BitVec.ofNat 32 (Row.nHard (row x2 r)) := by
  have hp := nPos_le (row x2 r)
  pointwise [k0_pay194]
  rw [posCnt_apply x2 r ht, negCnt_apply x2 r ht]
  erw [muli_ofNat]
  exact minsi_ofNat _ _ (by omega) (by unfold nNeg; omega)

/-- The number of hard negatives is far below the range of a signed word. -/
theorem nHard_lt : Row.nHard (row x2 r) < 2 ^ 31 := by
  have : Row.nHard (row x2 r) ≤ nNeg (row x2 r) := min_le_right _ _
  have : nNeg (row x2 r) ≤ 32768 := Nat.sub_le _ _
  omega

/-- The kernel's number of positives and hard negatives together. -/
theorem cntAll_apply : k0_pay199 (F := Ideal) (accT (chunk x2) 63) (chunk x2 63) (ix2 r 0)
    = BitVec.ofNat 32 (nPos (row x2 r) + Row.nHard (row x2 r)) := by
  pointwise [k0_pay199]
  rw [posCnt_apply x2 r ht, nHard_apply x2 r ht]
  exact addi_ofNat _ _

/-- The row is easy: all of its negatives are hard, or none. -/
theorem easy_apply : k0_pay195 (F := Ideal) (accT (chunk x2) 63) (chunk x2 63) (ix2 r 0)
    = BitVec.ofBool (decide (Row.nHard (row x2 r) = nNeg (row x2 r)) || decide (Row.nHard (row x2 r) ≤ 0)) := by
  have hn := nHard_lt x2 r ht
  have : nNeg (row x2 r) ≤ 32768 := Nat.sub_le _ _
  pointwise [k0_pay195]
  rw [nHard_apply x2 r ht, negCnt_apply x2 r ht, cmpi_eq_ofNat _ _ hn (by omega)]
  erw [cmpi_sle_ofNat _ 0 hn (by omega)]
  exact ori_ofBool _ _

/-- The kernel's weighted loss of a row's positives. -/
theorem posSum_apply : posSum (F := Ideal) x1 x2 (ix2 r 0) = ((3 / 4 * sumPos (row x1 r) (row x2 r) : ℝ) : EReal) := by
  pointwise [posSum, k0_pay191, k0_pay189]
  rw [sum_accTfr, sum_weighted _ _ ht, bits_neg_three_quarters]
  rw [← EReal.coe_mul]
  congr 1
  ring

/-- The kernel's weighted loss of a row's negatives. -/
theorem negSum_apply : negSum (F := Ideal) x1 x2 (ix2 r 0) = ((1 / 4 * sumNeg (row x1 r) (row x2 r) : ℝ) : EReal) := by
  pointwise [negSum, k0_pay192, k0_pay189]
  rw [sum_accTfr, sum_accFr, sum_weighted _ _ ht, sum_terms _ _ ht, bits_neg_quarter]
  rw [← EReal.coe_sub, ← EReal.coe_mul]
  congr 1
  ring

end Cert.KernelIdeal.Hand

end
-- ==== Proof.KernelSearch.lean ====
/-
  The search of one block of the idealized kernel: the threshold it finds for a row, and the sum of the row's hard
  negatives it makes with it.
-/
module

public import proofs.«01_k».proof.Proof.KernelRows

@[expose] public section

set_option maxRecDepth 16384

noncomputable section

namespace Cert.KernelIdeal.Hand

open Cert.KernelIdeal Cert.KernelIdeal.Gen Cert.Row
open Idealize.ShloMosaic

/-- What the search compares: a negative's loss, and `-1` for a positive. -/
def masked (p t : Fin 32768 → EReal) (k : Fin 32768) : ℝ := if Pos t k then -1 else val p t k

variable (x1 x2 : Vec Ideal S32x32768 .f32) (r : Fin 32) (ht : Binary (row x2 r))

include ht in

/-- What the search compares at a place: a negative's loss, and minus one at a positive. -/
theorem masked_apply (k : Fin 32768) : k0_pay2 (F := Ideal) k0_pay7 x2 x1 (ix2 r k) = ((masked (row x1 r) (row x2 r) k : ℝ) : EReal) := by
  have e : k0_pay2 (F := Ideal) k0_pay7 x2 x1 (ix2 r k)
      = if Ideal.ofBits .f32 0x3F000000#32 ≤ row x2 r k then Ideal.ofBits .f32 0xBF800000#32 else 0 - term (row x1 r k) (row x2 r k) := by
    pointwise [k0_pay2, k0_pay7]
    rfl
  rw [e]
  simp only [half_le_iff (ht k)]
  unfold masked
  by_cases h : Pos (row x2 r) k
  · rw [if_pos h, if_pos (show row x2 r k = 1 from h), bits_neg_one]
  · rw [if_neg h, if_neg (show ¬ row x2 r k = 1 from h), term_coe _ _ (ht k), if_neg (show ¬ row x2 r k = 1 from h), val_neg h]
    rw [zero_sub, ← EReal.coe_neg, neg_neg]

/-- The bit a step of the search tries. -/
theorem trial_bit (k : Fin k0_t1_loop.trips) : Scalar.shli 1#32 (Scalar.subi 30#32 (Scf.iv 0#32 1#32 k.val)) = 1#32 <<< (30 - k.val) := by
  revert k; decide +kernel

/-- One step of the search at a row. -/
theorem step_apply (n : IVec S32x1 32) (m : ℕ) (hm : m ≤ 32768) (hn : n (ix2 r 0) = BitVec.ofNat 32 m) (ht : Binary (row x2 r))
    (k : Fin k0_t1_loop.trips) (w : IVec S32x1 32)
    (hw : (w (ix2 r 0) ||| (1#32 <<< (30 - k.val))).toNat < 0x7F800000) :
    k0_pay4 (F := Ideal) k0_pay7 n x2 x1 k w (ix2 r 0) = bitStep (Reaches (masked (row x1 r) (row x2 r)) m) k.val (w (ix2 r 0)) := by
  pointwise [k0_pay4]
  simp only [masked_apply x1 x2 r ht, trial_bit, IntOp.ori]
  rw [ofBits_eq_patVal _ hw]
  simp only [EReal.coe_le_coe_iff]
  rw [fold_count, hn, cmpi_sge_ofNat _ _ (lt_of_le_of_lt (Finset.card_le_univ _) (by simp)) (by omega), select_ofBool]
  unfold bitStep
  simp only [decide_eq_true_eq]
  rfl

/-- The value of the zero word is reached by as many elements as there are hard negatives. -/
theorem masked_reaches (p t : Fin 32768 → EReal) (T : Finset (Fin 32768)) (hT : IsHard p t T) : Reaches (masked p t) (Row.nHard t) 0 :=
  hT.card ▸ reaches_zero _ T fun i hi => by
    unfold masked
    rw [if_neg (hT.neg i hi)]
    exact le_trans (by positivity) (val_ge i)

/-- The value of the word of 32 is reached by no element. -/
theorem masked_not_reaches (p t : Fin 32768 → EReal) (hpos : 0 < Row.nHard t) : ¬ Reaches (masked p t) (Row.nHard t) 0x42000000 :=
  not_reaches_top _ _ hpos fun i => by
    unfold masked
    split_ifs
    · norm_num
    · exact val_lt i

/-- A row has at most as many hard negatives as it has places. -/
theorem nHard_le (t : Fin 32768 → EReal) : Row.nHard t ≤ 32768 := (min_le_right _ _).trans (Nat.sub_le _ _)

/-- The threshold found at a row with hard negatives. -/
theorem thrBits_apply (T : Finset (Fin 32768)) (hT : IsHard (row x1 r) (row x2 r) T) (hpos : 0 < Row.nHard (row x2 r)) (ht : Binary (row x2 r)) :
    thrBits (F := Ideal) x1 x2 (ix2 r 0) = bitSearch (Reaches (masked (row x1 r) (row x2 r)) (Row.nHard (row x2 r))) 31 := by
  have hinv := bitSearch_inv (reaches_anti (masked (row x1 r) (row x2 r)) (Row.nHard (row x2 r)))
    (masked_reaches _ _ T hT) (masked_not_reaches _ _ hpos)
  have htrips : k0_t1_loop.trips = 31 := by decide +kernel
  have hstep : ∀ l : ℕ, ∀ hl : l ≤ 31,
      ((List.finRange k0_t1_loop.trips).take l).foldl
          (fun (a : IVec S32x1 32) (k : Fin k0_t1_loop.trips) => k0_pay4 (F := Ideal) k0_pay7 (Hand.nHard x2) x2 x1 k a) k0_pay3 (ix2 r 0)
        = bitSearch (Reaches (masked (row x1 r) (row x2 r)) (Row.nHard (row x2 r))) l := by
    intro l
    induction l with
    | zero => intro _; rfl
    | succ l ih =>
      intro hl
      have hl' : l < (List.finRange k0_t1_loop.trips).length := by rw [List.length_finRange, htrips]; omega
      rw [List.take_succ_eq_append_getElem hl', List.foldl_append, List.foldl_cons, List.foldl_nil]
      obtain ⟨h1, h2⟩ := hinv l (by omega)
      have e := ih (by omega)
      have hk : ((List.finRange k0_t1_loop.trips)[l]).val = l := by simp
      rw [step_apply x1 x2 r (Hand.nHard x2) _ (nHard_le _) (nHard_apply x2 r ht) ht, e, hk]
      · rfl
      · rw [e, hk, toNat_or_bit _ _ (by omega) h1.dvd]
        exact h1.trial_lt (by omega) h2
  have e := hstep 31 le_rfl
  rw [List.take_of_length_le (by rw [List.length_finRange, htrips])] at e
  rw [← e]
  unfold thrBits
  rw [full_eq, full_eq, Scf.fold_eq]

/-- The sum made with a threshold, at a row. -/
theorem hard_read (n w : IVec S32x1 32) (ht : Binary (row x2 r)) :
    k0_pay197 (F := Ideal) (k0_pay5 k0_pay7 n x2 x1 w) k0_pay6 (ix2 r 0)
      = Ideal.ofBits .f32 0x3E800000#32 *
        ((∑ k, if Ideal.ofBits .f32 (w (ix2 r 0)) < ((masked (row x1 r) (row x2 r) k : ℝ) : EReal) then ((masked (row x1 r) (row x2 r) k : ℝ) : EReal) else 0)
          + FloatOps.sitofp (F := Ideal) .f32 (IntOp.subi (n (ix2 r 0))
              (BitVec.ofNat 32 (Finset.univ.filter fun k => Ideal.ofBits .f32 (w (ix2 r 0)) < ((masked (row x1 r) (row x2 r) k : ℝ) : EReal)).card))
            * Ideal.ofBits .f32 (w (ix2 r 0))) := by
  pointwise [k0_pay197, k0_pay5, k0_pay6]
  simp only [masked_apply x1 x2 r ht]
  rw [fold_count]

/-- The sum of a row's hard negatives as the search leaves it. -/
theorem hardVal_apply (T : Finset (Fin 32768)) (hT : IsHard (row x1 r) (row x2 r) T) (hpos : 0 < Row.nHard (row x2 r)) (ht : Binary (row x2 r)) :
    hardVal (F := Ideal) x1 x2 (ix2 r 0) = ((1 / 4 * ∑ i ∈ T, val (row x1 r) (row x2 r) i : ℝ) : EReal) := by
  have hn := nHard_le (row x2 r)
  have hthr := thrBits_apply x1 x2 r T hT hpos ht
  have hspec := bitSearch_spec (reaches_anti (masked (row x1 r) (row x2 r)) (Row.nHard (row x2 r)))
    (masked_reaches _ _ T hT) (masked_not_reaches _ _ hpos)
  obtain ⟨h1, h2⟩ := threshold_sum (Pos (row x2 r)) (val (row x1 r) (row x2 r)) (Row.nHard (row x2 r)) hpos T hT.card hT.neg
    (fun i _ => val_ge i) val_lt (fun i hi j hj hn => hT.val_apart i hi j hj hn)
    (masked (row x1 r) (row x2 r)) (fun _ => rfl) _ rfl
  unfold hardVal
  rw [full_eq, full_eq]
  rw [hard_read x1 x2 r _ _ ht, hthr, ofBits_eq_patVal _ (hspec.2.2.trans (by norm_num)), show Hand.nHard x2 (ix2 r 0) = _ from nHard_apply x2 r ht]
  simp only [EReal.coe_lt_coe_iff]
  rw [subi_ofNat _ _ h1, sitofp_ofNat _ (by omega), bits_quarter]
  rw [Finset.sum_ite, Finset.sum_const_zero, add_zero, sum_coe, ← EReal.coe_mul, ← EReal.coe_add, ← EReal.coe_mul, Nat.cast_sub h1, h2]

variable (hb : ∀ r, Binary (row x2 r))
include hb

/-- When some row is not easy the block runs the search. -/
theorem searchW_of_hard (hpos : 0 < Row.nHard (row x2 r)) (hlt : Row.nHard (row x2 r) ≠ nNeg (row x2 r)) : searchW (F := Ideal) x2 = 1#1 := by
  have e : k0_pay196 (F := Ideal) (accT (chunk x2) 63) (chunk x2 63) ≤ 0 := by
    have e1 : k0_pay196 (F := Ideal) (accT (chunk x2) 63) (chunk x2 63)
        = Finset.fold min (Ideal.ofBits FTy.f32 0x7F800000#32)
            (fun x : Fin 32 × Fin 1 => Scalar.select (k0_pay195 (F := Ideal) (accT (chunk x2) 63) (chunk x2 63) (ix2 x.1 0)) (1 : EReal) 0) Finset.univ := by
      pointwise [k0_pay196]
      try rfl
    rw [e1, Finset.fold_min_le]
    refine Or.inr ⟨(r, 0), Finset.mem_univ _, ?_⟩
    simp only
    rw [easy_apply x2 r (hb r), select_ofBool, if_neg]
    simp only [Bool.or_eq_true, decide_eq_true_eq, not_or]
    exact ⟨hlt, by omega⟩
  unfold searchW
  have e2 : Scalar.cmpf (F := Ideal) .ogt (k0_pay196 (F := Ideal) (accT (chunk x2) 63) (chunk x2 63)) (Scalar.ofBits .f32 0x00000000#32)
      = BitVec.ofBool (decide ((0 : EReal) < k0_pay196 (F := Ideal) (accT (chunk x2) 63) (chunk x2 63))) := by
    pointwise []
  rw [e2, decide_eq_false (not_lt.2 e)]
  decide

/-- The sum of hard negatives a row uses, whatever the scratch held. -/
theorem hardSum_apply (d : Vec Ideal S32x1 .f32) (T : Finset (Fin 32768)) (hT : IsHard (row x1 r) (row x2 r) T) :
    hardSum (F := Ideal) x1 x2 (scratch (F := Ideal) x1 x2 d) (ix2 r 0) = ((1 / 4 * ∑ i ∈ T, val (row x1 r) (row x2 r) i : ℝ) : EReal) := by
  have hn := nHard_le (row x2 r)
  have e : hardSum (F := Ideal) x1 x2 (scratch (F := Ideal) x1 x2 d) (ix2 r 0)
      = Scalar.select (k0_pay195 (F := Ideal) (accT (chunk x2) 63) (chunk x2 63) (ix2 r 0))
          (Scalar.select (IntOp.cmpi .sgt (k0_pay194 (F := Ideal) (accT (chunk x2) 63) (chunk x2 63) (ix2 r 0)) (BitVec.ofNat 32 0))
            (negSum (F := Ideal) x1 x2 (ix2 r 0)) (0 : EReal))
          (scratch (F := Ideal) x1 x2 d (ix2 r 0)) := by
    pointwise [hardSum, k0_pay198, negSum]
    try rfl
  rw [e, easy_apply x2 r (hb r), nHard_apply x2 r (hb r), negSum_apply x1 x2 r (hb r), cmpi_sgt_ofNat _ _ (by omega) (by omega), select_ofBool, select_ofBool]
  simp only [Bool.or_eq_true, decide_eq_true_eq]
  by_cases h0 : 0 < Row.nHard (row x2 r)
  · by_cases h1 : Row.nHard (row x2 r) = nNeg (row x2 r)
    · rw [if_pos (Or.inl h1), if_pos h0, hT.eq_neg h1]
      rfl
    · rw [if_neg (by omega)]
      unfold scratch
      rw [if_pos (searchW_of_hard x2 r hb h0 h1)]
      exact hardVal_apply x1 x2 r T hT h0 (hb r)
  · rw [if_pos (Or.inr (by omega)), if_neg h0, hT.eq_empty (by omega)]
    simp

omit hb in
/-- The rows' losses are added up and added to the output. -/
theorem out_read (y : Vec Ideal S1x1 .f32) (a c f : IVec S32x1 32) (b d e : FVec Ideal S32x1 .f32) :
    k0_pay1 (F := Ideal) (k0_pay201 y) (k0_pay202 a b d c e f) (ix2 0 0)
      = y (ix2 0 0) + (∑ r : Fin 32, Scalar.select (IntOp.cmpi .sgt (a (ix2 r 0)) (BitVec.ofNat 32 0))
        (Ideal.div (b (ix2 r 0) + e (ix2 r 0)) (max (FloatOps.sitofp (F := Ideal) .f32 (f (ix2 r 0))) 1))
        (Ideal.div (d (ix2 r 0)) (max (FloatOps.sitofp (F := Ideal) .f32 (c (ix2 r 0))) 1))) * Ideal.ofBits .f32 0x3C000000#32 := by
  pointwise [k0_pay1, k0_pay201, k0_pay202]
  simp only [Finset.univ_unique, Finset.sum_singleton]

/-- What one block adds to the output, whatever the scratch held. -/
theorem outNew_apply (y : Vec Ideal S1x1 .f32) (d : Vec Ideal S32x1 .f32) (T : Fin 32 → Finset (Fin 32768))
    (hT : ∀ r, IsHard (row x1 r) (row x2 r) (T r)) :
    outNew (F := Ideal) x1 x2 y d (ix2 0 0)
      = y (ix2 0 0) + ((1 / 128 * ∑ r : Fin 32, rowOut (row x1 r) (row x2 r) (T r) : ℝ) : EReal) := by
  have hrow : ∀ r : Fin 32,
      Scalar.select (IntOp.cmpi .sgt (posCnt (F := Ideal) x2 (ix2 r 0)) (BitVec.ofNat 32 0))
        (Ideal.div (posSum (F := Ideal) x1 x2 (ix2 r 0) + hardSum (F := Ideal) x1 x2 (scratch (F := Ideal) x1 x2 d) (ix2 r 0))
          (max (FloatOps.sitofp (F := Ideal) .f32 (cntAll (F := Ideal) x2 (ix2 r 0))) 1))
        (Ideal.div (negSum (F := Ideal) x1 x2 (ix2 r 0)) (max (FloatOps.sitofp (F := Ideal) .f32 (negCnt (F := Ideal) x2 (ix2 r 0))) 1))
        = ((rowOut (row x1 r) (row x2 r) (T r) : ℝ) : EReal) := by
    intro r
    have hn := nHard_le (row x2 r)
    have hp := nPos_le (row x2 r)
    have hm : nNeg (row x2 r) ≤ 32768 := Nat.sub_le _ _
    rw [hardSum_apply x1 x2 r hb d (T r) (hT r), posSum_apply x1 x2 r (hb r), negSum_apply x1 x2 r (hb r),
      show posCnt (F := Ideal) x2 (ix2 r 0) = _ from posCnt_apply x2 r (hb r),
      show cntAll (F := Ideal) x2 (ix2 r 0) = _ from cntAll_apply x2 r (hb r),
      show negCnt (F := Ideal) x2 (ix2 r 0) = _ from negCnt_apply x2 r (hb r),
      sitofp_ofNat _ (by omega), sitofp_ofNat _ (by omega), cmpi_sgt_ofNat _ _ (by omega) (by omega), select_ofBool]
    exact (rowOut_coe _ _ _).symm
  have e : outNew (F := Ideal) x1 x2 y d (ix2 0 0)
      = y (ix2 0 0) + (∑ r : Fin 32, ((rowOut (row x1 r) (row x2 r) (T r) : ℝ) : EReal)) * Ideal.ofBits .f32 0x3C000000#32 := by
    unfold outNew
    rw [out_read]
    exact congrArg (fun z => y (ix2 0 0) + z * Ideal.ofBits .f32 0x3C000000#32) (Finset.sum_congr rfl fun r _ => hrow r)
  rw [e, sum_coe, bits_inv128, ← EReal.coe_mul, mul_comm]

end Cert.KernelIdeal.Hand

end
-- ==== Proof.KernelRun.lean ====
/-
  The run of the idealized kernel that names its result: after each block the output holds the mean's share of the rows
  seen so far, and at the end the scalar result is the mean of the rows' losses.
-/
module

public import proofs.«01_k».proof.Proof.Frame
public import proofs.«01_k».proof.Proof.KernelSearch
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.Row
open Idealize.ShloMosaic Idealize.ShloMosaic.TcCoe
open Idealize.SL Idealize.SL.Sem

variable (m : (ℓ : Loc nD τ sig) → Buf (Elt Ideal) ℓ) (ρ : Dev nD → PrngReg) (c : Dev nD)

/-- The array of predictions, of targets. -/
abbrev preds : Vec Ideal S128x32768 .f32 := m ((c.tc : Thread nD τ).loc main_arg0)

/-- The targets, as the launch finds them. -/
abbrev targets : Vec Ideal S128x32768 .f32 := m ((c.tc : Thread nD τ).loc main_arg1)

/-- A row of an array. -/
def line (x : Vec Ideal S128x32768 .f32) (R : Fin 128) : Fin 32768 → EReal := fun k => x (ix2 R k)

/-- At point `t` both inputs' windows lie at block `t`. -/
theorem index_eq : ∀ t : Fin cfg0.N, (cfg0.win 0).index t = ![t.val, 0] ∧ (cfg0.win 1).index t = ![t.val, 0] := by
  decide +kernel

/-- The grid has four points. -/
theorem point_lt (t : Fin cfg0.N) : t.val < 4 := by
  have h2 := N_0
  have h3 : t.val < grid0.N := t.isLt
  omega

/-- Row `r` of the predictions' block at point `t` is row `32 t + r` of the array. -/
theorem row_pred (t : Fin cfg0.N) (r : Fin 32) :
    row (blkP m c t) r = line (preds m c) ⟨32 * t.val + r.val, by have := point_lt t; omega⟩ := by
  funext k
  have h := (index_eq t).1
  unfold row line blkP
  blk_ext [iblk, V, h]

/-- Row `r` of the targets' block at point `t` is row `32 t + r` of the array. -/
theorem row_target (t : Fin cfg0.N) (r : Fin 32) :
    row (blkT m c t) r = line (targets m c) ⟨32 * t.val + r.val, by have := point_lt t; omega⟩ := by
  funext k
  have h := (index_eq t).2
  unfold row line blkT
  blk_ext [iblk, V, h]

/-- The loss of row `n`, nothing past the last. -/
def lossAt (T : Fin 128 → Finset (Fin 32768)) (n : ℕ) : ℝ :=
  if h : n < 128 then rowOut (line (preds m c) ⟨n, h⟩) (line (targets m c) ⟨n, h⟩) (T ⟨n, h⟩) else 0

/-- What the output holds after block `t`. -/
def partialMean (T : Dev nD → Fin 128 → Finset (Fin 32768)) (c : Dev nD) (t : Fin cfg0.N) : Vec Ideal S1x1 .f32 :=
  fun _ => ((1 / 128 * ∑ n ∈ Finset.range (32 * t.val + 32), lossAt m c (T c) n : ℝ) : EReal)

/-- The body's test for the first point holds at point zero only. -/
theorem first_iff : ∀ t : Fin cfg0.N, first (grid0.coords t) ↔ t.val = 0 :=
  (by decide +kernel : ∀ t : Fin grid0.N, first (grid0.coords t) ↔ t.val = 0)

variable (hb : ∀ c R, Binary (line (targets m c) R)) (T : Dev nD → Fin 128 → Finset (Fin 32768))
  (hT : ∀ c R, IsHard (line (preds m c) R) (line (targets m c) R) (T c R))
include hb hT

/-- The partial means follow one another as the body's runs do. -/
theorem follows : Follows m (partialMean m T) := by
  intro c t y d hy
  have ht := point_lt t
  funext j
  have hj : j = ix2 0 0 := by
    funext a; exact Fin.ext (by fin_cases a <;> exact Nat.lt_one_iff.1 (j _).isLt)
  rw [hj, outNew_apply (blkP m c t) (blkT m c t) (fun r => by rw [row_target]; exact hb _ _) _ d
    (fun r => T c ⟨32 * t.val + r.val, by omega⟩) (fun r => by rw [row_target, row_pred]; exact hT _ _)]
  have e : ∑ r : Fin 32, rowOut (row (blkP m c t) r) (row (blkT m c t) r) (T c ⟨32 * t.val + r.val, by omega⟩)
      = ∑ n ∈ Finset.range 32, lossAt m c (T c) (32 * t.val + n) := by
    rw [Finset.sum_range]
    refine Finset.sum_congr rfl fun r _ => ?_
    unfold lossAt
    rw [dif_pos (by omega), row_target, row_pred]
  rw [e]
  unfold partialMean
  rw [Finset.sum_range_add, mul_add, EReal.coe_add]
  congr 1
  by_cases h0 : t.val = 0
  · rw [if_pos ((first_iff t).2 h0), h0]
    have : k0_pay200 (F := Ideal) (ix2 0 0) = 0 := by pointwise [k0_pay200]
    rw [this]; simp
  · rw [if_neg (fun h => h0 ((first_iff t).1 h)), hy h0]
    unfold partialMean
    rw [show 32 * (t.val - 1) + 32 = 32 * t.val by omega]

/-- The mean of the rows' losses. -/
def meanLoss (P Y : Vec Ideal S128x32768 .f32) (T : Fin 128 → Finset (Fin 32768)) : ℝ :=
  (∑ R : Fin 128, rowOut (line P R) (line Y R) (T R)) / 128

omit hb hT in
/-- The output's array is what the last block left. -/
theorem written : (dats m (partialMean m T) 0 c).arrAt 2 (cfgs 0).N = partialMean m T c t0_3 :=
  (dats m (partialMean m T) 0 c).arrAt_eq_of_after_last 2 t0_3 (by decide +kernel) _ fun j => by
    blk_simp
    rfl

/-- The run leaves the mean of the rows' losses, and the arguments unchanged. -/
theorem run_value : θ_run defs (onTc (τ := τ) (main (F := Ideal))) ⟨m, fun _ => 0, ρ⟩ (fun r => ∀ c : Dev nD,
      r.2.mem ((c.tc : Thread nD τ).loc main_v1) = (fun _ => ((meanLoss (preds m c) (targets m c) (T c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from (run_exact m ρ (partialMean m T) (follows m hb T hT))
  · unfold Pipeline.afterTail₀
    rw [List.flatten_cons, List.flatten_nil, List.append_nil, hostOps1, StableHlo.after_cons, StableHlo.after_nil, StableHlo.reshape_result]
    have e := Pipeline.withArrays_arr spec0 (by decide +kernel) c (V0 m c) (fun w => (dats m (partialMean m T) 0 c).arrAt w (cfgs 0).N) 2
    have e' : Pipeline.withArrays spec0 c (V0 m c) (fun w => (dats m (partialMean m T) 0 c).arrAt w (cfgs 0).N) (Proc.devRef .tc main_v0)
        = partialMean m T c t0_3 := e.trans (written m c T)
    have hlast : ∀ j, partialMean m T c t0_3 j = ((meanLoss (preds m c) (targets m c) (T c) : ℝ) : EReal) := fun j => by
      unfold partialMean meanLoss
      rw [show 32 * t0_3.val + 32 = 128 from rfl, Finset.sum_range, one_div, inv_mul_eq_div]
      simp only [lossAt, Fin.is_lt, dif_pos, Fin.eta]
    funext i
    show Pipeline.withArrays spec0 c (V0 m c) (fun w => (dats m (partialMean m T) 0 c).arrAt w (cfgs 0).N) (Proc.devRef .tc main_v0) _ = _
    rw [e']
    exact hlast _

end Cert.KernelIdeal.Hand

end
-- ==== Proof.Sorted.lean ====
/-
  Rows of a 128 by 32768 array under the host's operations: the sort of every row, a count over a row, and the running
  sum along a row.
-/
module

public import proofs.«01_k».proof.Proof.KernelRows
public import Idealize.ShloMosaic.Lib.SortFacts
public import Idealize.ShloMosaic.Lib.Routing.Ops

@[expose] public section

set_option maxRecDepth 16384

noncomputable section

namespace Cert.Row

open Idealize.ShloMosaic

/-- The shape of the two inputs. -/
abbrev Wide : Shape := ⟨2, ![128, 32768]⟩
/-- The shape of one number per row. -/
abbrev Tall : Shape := ⟨1, ![128]⟩

/-- The word of one. -/
theorem bits_one : Ideal.ofBits .f32 0x3F800000#32 = 1 := by
  have e : Ideal.ofBits .f32 0x3F800000#32 = ((1 : ℝ) : EReal) := by
    simp [Ideal.ofBits, Ideal.ieee, -EReal.coe_mul]; norm_num
  rw [e, EReal.coe_one]

/-- The host's sort replaces a zero by a zero and a number that differs from itself by a fixed word; here every number
    stays as it is. -/
theorem normalised (x : EReal) : Scalar.select (Ideal.cmp .une x x) (Ideal.ofBits .f32 0x7FC00000#32)
    (Scalar.select (Ideal.cmp .oeq x (Ideal.ofBits .f32 0x00000000#32)) (Ideal.ofBits .f32 0x00000000#32) x) = x := by
  have h1 : Ideal.cmp .une x x = BitVec.ofBool false := by simp [Ideal.cmp]
  have h2 : Ideal.cmp .oeq x (Ideal.ofBits .f32 0x00000000#32) = BitVec.ofBool (decide (x = Ideal.ofBits .f32 0x00000000#32)) := rfl
  rw [h1, select_ofBool, h2, select_ofBool, if_neg (by decide)]
  by_cases h : x = Ideal.ofBits .f32 0x00000000#32
  · rw [if_pos (decide_eq_true h), h]
  · rw [if_neg fun hd => h (of_decide_eq_true hd)]

/-- The order of a row under an ascending sort: position `k` of the sorted row holds entry `order v k`. -/
def order (v : Fin 32768 → EReal) : Fin 32768 → Fin 32768 := sortedFrom fun k k' => decide (v k < v k')

/-- The sorting order meets no place twice. -/
theorem order_injective (v : Fin 32768 → EReal) : Function.Injective (order v) := sortedFrom_injective _

/-- Along the sorting order the values do not fall. -/
theorem order_le (v : Fin 32768 → EReal) {a b : Fin 32768} (h : a ≤ b) : v (order v a) ≤ v (order v b) := by
  rcases h.lt_or_eq with h | rfl
  · have key := sortedFrom_noInversion (fun k k' => decide (v k < v k')) (fun k k' => decide (v k < v k'))
      (fun x y hxy => by
        have := of_decide_eq_true hxy
        simpa using this.le) (fun _ _ h => h)
      (fun x y z h1 h2 => by
        simp only [decide_eq_false_iff_not, not_lt] at h1 h2 ⊢
        first | exact h1.trans h2 | exact h2.trans h1) a b h
    have := of_decide_eq_false key
    exact not_lt.1 this
  · exact le_refl _

/-- The sort of every row: entry `k` of row `R` is the row's entry at `order`. -/
theorem sort_apply (cmp : EReal → EReal → BitVec 1) (hcmp : ∀ l r, cmp l r = BitVec.ofBool (decide (l < r)))
    (x : Wide.Idx → EReal) (R : Fin 128) (k : Fin 32768) :
    Host.sort Wide 1 cmp x (ix2 R k) = x (ix2 R (order (fun k => x (ix2 R k)) k)) := by
  have hal : ∀ k', (ix2 R k : Wide.Idx).along 1 k' = ix2 R k' := fun k' => by
    funext a
    match a with
    | ⟨0, _⟩ => rfl
    | ⟨1, _⟩ => rfl
  have e : Host.sort Wide 1 cmp x (ix2 R k) = x ((ix2 R k : Wide.Idx).along 1
      (sortedFrom (fun k' k'' => cmp (x ((ix2 R k : Wide.Idx).along 1 k')) (x ((ix2 R k : Wide.Idx).along 1 k'')) == 1#1) k)) := rfl
  rw [e, hal]
  refine congrArg (fun f => x (ix2 R (sortedFrom f k))) ?_
  funext k' k''
  rw [hal, hal, hcmp]
  by_cases h : x (ix2 R k') < x (ix2 R k'') <;> simp [h]

/-- The number of the marked entries of a row. -/
theorem count_apply (m : IVec Wide 1) (hw : 1 < 32) (h : Wide.ReducesTo [1] Tall) (hu : 0 < (⟨0, ![]⟩ : Shape).numel)
    (R : Fin 128) (q : Fin 32768 → Prop) [DecidablePred q] (hq : ∀ k, m (ix2 R k) = BitVec.ofBool (decide (q k))) :
    Host.reduce IntOp.addi (extui 32 m hw) (constantI ⟨0, ![]⟩ 32 0#32) h hu (ix1 R)
      = BitVec.ofNat 32 (Finset.univ.filter q).card := by
  have hr : Wide.Reduces [1] Tall := by decide
  rw [Host.reduce_eq_fold_single _ _ _ h hr, ← fold_count]
  have hl : ∀ k : Fin 32768, hr.lift (ix1 R) k = ix2 R k := fun k => by
    funext a
    match a with
    | ⟨0, _⟩ => rfl
    | ⟨1, _⟩ => rfl
  refine congrArg (fun f => Finset.fold IntOp.addi (0#32) f (Finset.univ : Finset (Fin 32768))) ?_
  funext k
  show BitVec.setWidth 32 (m (hr.lift (ix1 R) k)) = _
  exact congrArg (BitVec.setWidth 32) ((congrArg m (hl k)).trans (hq k))

/-- A fold by addition is its start and the sum of the list. -/
theorem foldl_add_eq {ι : Type} (l : List ι) (f : EReal → ι → EReal) (g : ι → EReal) (hf : ∀ r n, f r n = r + g n) (v : EReal) :
    l.foldl f v = v + (l.map g).sum := by
  induction l generalizing v with
  | nil => simp
  | cons a l ih => rw [List.foldl_cons, ih, hf, List.map_cons, List.sum_cons, add_assoc]

/-- A sum over the window that ends at `j`, in which a position before the start counts for nothing. -/
theorem sum_shifted {d : ℕ} (w : Fin (d + 1) → EReal) (j : Fin (d + 1)) :
    ∑ n : Fin (d + 1), (if h : d ≤ j.val + n.val then w ⟨j.val + n.val - d, by omega⟩ else 0)
      = ∑ k with k.val ≤ j.val, w k := by
  rw [Finset.sum_dite, Finset.sum_const_zero, add_zero]
  refine Finset.sum_bij (fun n _ => (⟨j.val + n.1.val - d, by omega⟩ : Fin (d + 1))) ?_ ?_ ?_ ?_
  · intro n _
    rw [Finset.mem_filter]
    exact ⟨Finset.mem_univ _, by simp only; omega⟩
  · intro a _ b _ hab
    have ha := (Finset.mem_filter.1 a.2).2
    have hb := (Finset.mem_filter.1 b.2).2
    have := congrArg Fin.val hab
    simp only at this
    exact Subtype.ext (Fin.ext (by omega))
  · intro k hk
    have := (Finset.mem_filter.1 hk).2
    exact ⟨⟨⟨k.val + d - j.val, by omega⟩, Finset.mem_filter.2 ⟨Finset.mem_univ _, by simp only; omega⟩⟩,
      Finset.mem_attach _ _, Fin.ext (by simp only; omega)⟩
  · intro n _; rfl

/-- The running sum along a row of `d + 1` entries. -/
theorem running_apply' {m d : ℕ} (x : (⟨2, ![m, d + 1]⟩ : Shape).Idx → EReal) (init : EReal) (hinit : init = 0)
    (h : (⟨2, ![m, d + 1]⟩ : Shape).ReduceWindows ![1, d + 1] ![1, 1] ![0, d] ![0, 0] ⟨2, ![m, d + 1]⟩)
    (R : Fin m) (j : Fin (d + 1)) :
    Ideal.hostReduceWindowAdd (s := ⟨2, ![m, d + 1]⟩) ![1, d + 1] ![1, 1] ![0, d] ![0, 0] h x init (ix2 R j)
      = ∑ k with k.val ≤ j.val, x (ix2 R k) := by
  subst hinit
  have hR := R.isLt
  have hj := j.isLt
  unfold Ideal.hostReduceWindowAdd Host.reduceWindow
  refine (foldl_add_eq _ _ (fun n => if h : d ≤ j.val + n.val then
    x (ix2 R ⟨j.val + n.val - d, by have := (n.cast (Routing.numel2 (d + 1))).isLt; rw [Fin.val_cast] at this; omega⟩) else 0)
    (fun r n => ?_) _).trans ?_
  · have hw0 : ((⟨2, ![1, d + 1]⟩ : Shape).rowMajor.symm n 0).val = 0 := by rw [Routing.symm2]; rfl
    have hw : ((⟨2, ![1, d + 1]⟩ : Shape).rowMajor.symm n 1).val = n.val := by rw [Routing.symm2]; rfl
    have hn : n.val < d + 1 := (n.cast (Routing.numel2 (d + 1))).isLt
    refine congrArg (fun y => r + y) ?_
    split
    · next hin =>
      have h1 := (hin 1).1
      change d ≤ j.val * 1 + ((⟨2, ![1, d + 1]⟩ : Shape).rowMajor.symm n 1).val at h1
      rw [hw] at h1
      rw [dif_pos (by omega)]
      refine congrArg x (funext fun a => Fin.ext ?_)
      match a with
      | ⟨0, _⟩ =>
        show R.val * 1 + ((⟨2, ![1, d + 1]⟩ : Shape).rowMajor.symm n 0).val - 0 = R.val
        rw [hw0]; omega
      | ⟨1, _⟩ =>
        show j.val * 1 + ((⟨2, ![1, d + 1]⟩ : Shape).rowMajor.symm n 1).val - d = j.val + n.val - d
        rw [hw]; omega
    · next hin =>
      rw [dif_neg fun hle => hin fun a => by
        match a with
        | ⟨0, _⟩ =>
          show 0 ≤ R.val * 1 + ((⟨2, ![1, d + 1]⟩ : Shape).rowMajor.symm n 0).val
            ∧ R.val * 1 + ((⟨2, ![1, d + 1]⟩ : Shape).rowMajor.symm n 0).val - 0 < m
          rw [hw0]; omega
        | ⟨1, _⟩ =>
          show d ≤ j.val * 1 + ((⟨2, ![1, d + 1]⟩ : Shape).rowMajor.symm n 1).val
            ∧ j.val * 1 + ((⟨2, ![1, d + 1]⟩ : Shape).rowMajor.symm n 1).val - d < d + 1
          rw [hw]; omega]
  · rw [zero_add, ← sum_shifted (fun k => x (ix2 R k)) j, ← Fin.sum_univ_def]
    exact Fintype.sum_equiv (finCongr (Routing.numel2 (d + 1))) _ _ fun n => rfl

/-- The running sum along a row. -/
theorem running_apply {m d N : ℕ} (hN : d + 1 = N) (x : (⟨2, ![m, N]⟩ : Shape).Idx → EReal) (init : EReal) (hinit : init = 0)
    (h : (⟨2, ![m, N]⟩ : Shape).ReduceWindows ![1, N] ![1, 1] ![0, d] ![0, 0] ⟨2, ![m, N]⟩) (R : Fin m) (j : Fin N) :
    Ideal.hostReduceWindowAdd (s := ⟨2, ![m, N]⟩) ![1, N] ![1, 1] ![0, d] ![0, 0] h x init (ix2 R j)
      = ∑ k with k.val ≤ j.val, x (ix2 R k) := by
  subst hN
  exact running_apply' x init hinit h R j

end Cert.Row
-- ==== Proof.RefRows.lean ====
/-
  What the reference holds, row by row.
-/
module

public import proofs.«01_k».proof.Proof.Sorted
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read Cert.Row
open Idealize.ShloMosaic

variable (x0 x1 : Vec Ideal S128x32768 .f32) (R : Fin 128)

/-- The gather takes from each row the entry the row's index names. -/
theorem gather_apply (x : S128x32768.Idx → EReal) (idx : IVec S128x1x1 32) :
    Host.gather gather_S128x32768_S128x1x1_S128x1_n_1_0_0_1_2_11 x idx (ix2 R 0)
      = x (ix2 R ⟨min (idx (ix3 R 0 0)).toInt.toNat 32767, by omega⟩) := by
  unfold Host.gather
  refine congrArg x (funext fun a => Fin.ext ?_)
  match a with
  | ⟨0, _⟩ =>
    show GatherDims.start _ _ idx 0 + GatherDims.batchCoord _ (ix2 R 0) 0 + GatherDims.offCoord _ (ix2 R 0) 0 = R.val
    rw [GatherDims.start_batching _ _ _ _ (List.mem_singleton.2 rfl), GatherDims.offCoord_eq_zero _ _ _
      (fun h => ((GatherDims.mem_sKept _ _).1 h).2 (List.mem_singleton.2 rfl)), Nat.zero_add, Nat.add_zero]
    unfold GatherDims.batchCoord
    rw [dif_pos (show (0 : Fin 2) ∈ gather_S128x32768_S128x1x1_S128x1_n_1_0_0_1_2_11.operandBatchingDims from List.mem_singleton.2 rfl)]
    rfl
  | ⟨1, _⟩ =>
    show min (idx _).toInt.toNat _ + 0 + 0 = min (idx _).toInt.toNat _
    refine congrArg (fun y => min (idx y).toInt.toNat 32767) (funext fun b => Fin.ext ?_)
    match b with
    | ⟨0, _⟩ => rfl
    | ⟨1, _⟩ => rfl
    | ⟨2, _⟩ => rfl

/-- The sort's comparator is the order of the extended reals. -/
theorem comparator_apply (l r : EReal) : comparator_f32_d1 (F := Ideal) l r = BitVec.ofBool (decide (l < r)) := by
  have hz : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := normalised
  have e : comparator_f32_d1 (F := Ideal) l r = Ideal.cmp .olt
    (Scalar.select (Ideal.cmp .une l l) (Ideal.ofBits .f32 0x7FC00000#32)
      (Scalar.select (Ideal.cmp .oeq l (Ideal.ofBits .f32 0x00000000#32)) (Ideal.ofBits .f32 0x00000000#32) l))
    (Scalar.select (Ideal.cmp .une r r) (Ideal.ofBits .f32 0x7FC00000#32)
      (Scalar.select (Ideal.cmp .oeq r (Ideal.ofBits .f32 0x00000000#32)) (Ideal.ofBits .f32 0x00000000#32) r)) := rfl
  rw [e, hz, hz]
  rfl

/-- The weighted focal loss of an element, as the reference computes it. -/
def focal (p t : EReal) : EReal :=
  let one := Ideal.ofBits .f32 0x3F800000#32
  let c := min (one - Ideal.ofBits .f32 0x358637BD#32) (max (Ideal.ofBits .f32 0x358637BD#32) p)
  let b := Ideal.cmp .oeq t one
  (Scalar.select b (Ideal.ofBits .f32 0x3F400000#32) (Ideal.ofBits .f32 0x3E800000#32)
    * Ideal.pow (one - Scalar.select b c (one - c)) (Ideal.ofBits .f32 0x40000000#32))
    * -((one * t) * Ideal.log c + (one - t) * Ideal.log (one - c))

/-- The reference's focal value at a place is the function `focal` of the two arguments there. -/
theorem v29_eq (k : Fin 32768) : val_main_v29 (F := Ideal) x0 x1 (ix2 R k) = focal (x0 (ix2 R k)) (x1 (ix2 R k)) := rfl

/-- At a target of zero or one the focal value is the weighted loss of the clipped prediction. -/
theorem focal_coe (p t : EReal) (ht : t = 0 ∨ t = 1) :
    focal p t = (((if t = 1 then 3 / 4 * loss (1 - clip p) else 1 / 4 * loss (clip p)) : ℝ) : EReal) := by
  have h0 := clip_pos p
  have h1 := clip_lt_one p
  unfold focal
  simp only [bits_one, one_sub_lo]
  simp only [bits_lo, ← clip_coe, bits_three_quarters, bits_quarter, bits_two]
  have hp : ∀ x : ℝ, Ideal.pow ((x : ℝ) : EReal) ((2 : ℝ) : EReal) = ((x ^ 2 : ℝ) : EReal) := fun x => by
    rw [Ideal.pow_coe_coe]
    exact congrArg (fun x : ℝ => (x : EReal)) (Real.rpow_two x)
  have e1 : (1 : EReal) - ((clip p : ℝ) : EReal) = ((1 - clip p : ℝ) : EReal) := by norm_cast
  rw [e1, Ideal.log_coe, Ideal.log_coe, if_neg (not_le.2 h0), if_neg (by linarith)]
  have hc : Ideal.cmp .oeq t 1 = BitVec.ofBool (decide (t = 1)) := rfl
  rw [hc, select_ofBool, select_ofBool]
  rcases ht with rfl | rfl
  · have hz : ¬ ((0 : EReal) = 1) := zero_ne_one
    rw [if_neg (by simpa using hz), if_neg (by simpa using hz), if_neg hz]
    have e2 : (1 : EReal) - ((1 - clip p : ℝ) : EReal) = ((clip p : ℝ) : EReal) := by
      norm_cast; exact sub_sub_cancel _ _
    rw [e2, hp, mul_zero, zero_mul, zero_add, sub_zero, one_mul]
    norm_cast
    unfold loss
    ring
  · rw [if_pos (by simp), if_pos (by simp), if_pos rfl]
    rw [e1, hp]
    have e3 : (1 : EReal) - 1 = 0 := by rw [← EReal.coe_one, ← EReal.coe_sub, sub_self, EReal.coe_zero]
    rw [e3, zero_mul, add_zero, one_mul, one_mul]
    norm_cast
    unfold loss
    rw [sub_sub_cancel]
    ring

/-- A row of an array. -/
def line (x : Vec Ideal S128x32768 .f32) (R : Fin 128) : Fin 32768 → EReal := fun k => x (ix2 R k)

/-- The greater of zero and a small count is the count. -/
theorem maxsi_zero_ofNat (a : ℕ) (ha : a < 2 ^ 31) : IntOp.maxsi (0#32) (BitVec.ofNat 32 a) = BitVec.ofNat 32 a := by
  unfold IntOp.maxsi
  have h : (BitVec.ofNat 32 a).slt (0#32) = decide (a < 0) := by
    rw [Bool.eq_iff_iff, BitVec.slt_iff_toInt_lt, toInt_ofNat a ha]
    simp
  rw [h]
  simp

/-- The order along a row puts the fill below every loss. -/
def fill : ℝ := Classical.choose bits_fill

/-- The filling is negative. -/
theorem fill_neg : fill < 0 := (Classical.choose_spec bits_fill).1

/-- The filling's word is that number. -/
theorem bits_fill_eq : Ideal.ofBits .f32 0xF149F2CA#32 = ((fill : ℝ) : EReal) := (Classical.choose_spec bits_fill).2

/-- What the reference sorts: a negative's weighted loss, and the fill for a positive. -/
def key (p t : Fin 32768 → EReal) (k : Fin 32768) : ℝ := if Pos t k then fill else 1 / 4 * val p t k

section
variable (hb : Binary (line x1 R))
include hb

/-- The focal value at a place of a row. -/
theorem v29_apply (k : Fin 32768) : val_main_v29 (F := Ideal) x0 x1 (ix2 R k)
    = (((if Pos (line x1 R) k then 3 / 4 else 1 / 4) * val (line x0 R) (line x1 R) k : ℝ) : EReal) := by
  rw [v29_eq, focal_coe _ _ (show x1 (ix2 R k) = 0 ∨ x1 (ix2 R k) = 1 from hb k)]
  refine congrArg (fun x : ℝ => (x : EReal)) ?_
  by_cases h : Pos (line x1 R) k
  · have h1 : x1 (ix2 R k) = 1 := h
    rw [if_pos h1, if_pos h, val_pos h]; rfl
  · have h1 : ¬ x1 (ix2 R k) = 1 := h
    rw [if_neg h1, if_neg h, val_neg h]; rfl

/-- The mask of the positives. -/
theorem v31_apply (k : Fin 32768) : val_main_v31 (F := Ideal) x1 (ix2 R k) = BitVec.ofBool (decide (Pos (line x1 R) k)) := by
  have e : val_main_v31 (F := Ideal) x1 (ix2 R k) = BitVec.ofBool (decide (Ideal.ofBits .f32 0x3F000000#32 ≤ x1 (ix2 R k))) := rfl
  rw [e]
  exact congrArg BitVec.ofBool (decide_eq_decide.2 (half_le_iff (hb k)))

/-- The mask of the negatives. -/
theorem v32_apply (k : Fin 32768) : val_main_v32 (F := Ideal) x1 (ix2 R k) = BitVec.ofBool (decide (¬ Pos (line x1 R) k)) := by
  rw [val_main_v32_apply, v31_apply x1 R hb]
  by_cases h : Pos (line x1 R) k <;> simp [h] <;> rfl

/-- The reference's count of a row's positives. -/
theorem v34_apply : val_main_v34 (F := Ideal) x1 (ix1 R) = BitVec.ofNat 32 (nPos (line x1 R)) :=
  count_apply (val_main_v31 (F := Ideal) x1) natLt_1_32 reducesTo_S128x32768_S128_d1 h_S_ R _ (v31_apply x1 R hb)

/-- The reference's count of a row's negatives. -/
theorem v36_apply : val_main_v36 (F := Ideal) x1 (ix1 R) = BitVec.ofNat 32 (nNeg (line x1 R)) := by
  rw [← card_neg]
  exact count_apply (val_main_v32 (F := Ideal) x1) natLt_1_32 reducesTo_S128x32768_S128_d1 h_S_ R _ (v32_apply x1 R hb)

/-- The reference's number of hard negatives of a row. -/
theorem v39_apply : val_main_v39 (F := Ideal) x1 (ix1 R) = BitVec.ofNat 32 (nHard (line x1 R)) := by
  have hp := nPos_le (line x1 R)
  rw [val_main_v39_apply, val_main_v38_apply, v34_apply x1 R hb, v36_apply x1 R hb, val_main_v37_apply]
  show IntOp.minsi (IntOp.muli _ (BitVec.ofNat 32 10)) _ = _
  rw [muli_ofNat, minsi_ofNat _ _ (by omega) (by unfold nNeg; omega)]
  rfl

/-- What the reference sorts, place by place. -/
theorem v40_apply (k : Fin 32768) : val_main_v40 (F := Ideal) x0 x1 (ix2 R k) = ((key (line x0 R) (line x1 R) k : ℝ) : EReal) := by
  rw [val_main_v40_apply, v32_apply x1 R hb, select_ofBool, v29_apply x0 x1 R hb, val_main_call3_v0_apply]
  show (if _ then _ else Ideal.ofBits .f32 0xF149F2CA#32) = _
  rw [bits_fill_eq]
  unfold key
  by_cases h : Pos (line x1 R) k
  · rw [if_neg (by simp [h]), if_pos h]
  · rw [if_pos (by simp [h]), if_neg h, if_neg h]

/-- The order in which the reference lists a row's losses. -/
def listing : Fin 32768 → Fin 32768 := order fun k => val_main_v41 (F := Ideal) x0 x1 (ix2 R k)

/-- The sorted row: at each place the value that the listing takes there. -/
theorem v43_apply (k : Fin 32768) : val_main_v43 (F := Ideal) x0 x1 (ix2 R k)
    = ((key (line x0 R) (line x1 R) (listing x0 x1 R k) : ℝ) : EReal) := by
  rw [val_main_v43_apply]
  unfold val_main_v42
  rw [sort_apply _ comparator_apply, val_main_v41_apply, v40_apply x0 x1 R hb]
  exact neg_neg _

/-- Along the listing the values do not grow. -/
theorem listing_le {a b : Fin 32768} (h : a ≤ b) :
    key (line x0 R) (line x1 R) (listing x0 x1 R b) ≤ key (line x0 R) (line x1 R) (listing x0 x1 R a) := by
  have e : ∀ k, val_main_v41 (F := Ideal) x0 x1 (ix2 R k) = -((key (line x0 R) (line x1 R) k : ℝ) : EReal) := fun k => by
    rw [val_main_v41_apply, v40_apply x0 x1 R hb]; rfl
  have h1 : val_main_v41 (F := Ideal) x0 x1 (ix2 R (listing x0 x1 R a)) ≤ val_main_v41 (F := Ideal) x0 x1 (ix2 R (listing x0 x1 R b)) :=
    order_le (fun k => val_main_v41 (F := Ideal) x0 x1 (ix2 R k)) h
  rw [e, e] at h1
  exact EReal.coe_le_coe_iff.1 (EReal.neg_le_neg_iff.1 h1)

/-- The running sum of the sorted row. -/
theorem v44_apply (j : Fin 32768) : val_main_v44 (F := Ideal) x0 x1 (ix2 R j)
    = ((∑ k with k.val ≤ j.val, key (line x0 R) (line x1 R) (listing x0 x1 R k) : ℝ) : EReal) := by
  rw [← sum_coe, ← Finset.sum_congr rfl fun k _ => v43_apply x0 x1 R hb k]
  have h0 : Ideal.ofBits .f32 0x00000000#32 = 0 := by simp [Ideal.ofBits, Ideal.ieee]
  have hi : val_main_call5_call0_v0 (F := Ideal) (Shape.Idx.first h_S_) = 0 := (val_main_call5_call0_v0_apply _).trans h0
  unfold val_main_v44 Host.reduceWindowAdd
  exact running_apply (m := 128) (d := 32767) (N := 32768) rfl _ _ hi reduceWindows_S128x32768_S128x32768_w1s1p0_0_w32768s1p32767_0 R j

/-- The place at which the running sum is read: one less than the number of hard negatives. -/
theorem call7_v5_apply (n : ℕ) (hn : nHard (line x1 R) = n + 1) : val_main_call7_v5 (F := Ideal) x1 (ix3 R 0 0) = BitVec.ofNat 32 n := by
  have hl : n + 1 ≤ 32768 := by
    have h : nHard (line x1 R) ≤ 32768 := by unfold nHard nNeg; omega
    omega
  have e47 : val_main_v47 (F := Ideal) x1 (ix1 R) = BitVec.ofNat 32 n := by
    rw [val_main_v47_apply, val_main_call6_v2_apply, val_main_v46_apply, v39_apply x1 R hb, hn, val_main_v45_apply,
      val_main_call6_v1_apply, val_main_call6_v4_apply]
    show IntOp.minsi (BitVec.ofNat 32 32767) (IntOp.maxsi (0#32) (IntOp.subi _ (BitVec.ofNat 32 1))) = _
    rw [subi_ofNat _ _ (by omega), Nat.add_sub_cancel, maxsi_zero_ofNat _ (by omega), minsi_ofNat _ _ (by omega) (by omega),
      min_eq_right (by omega)]
  have e48 : val_main_v48 (F := Ideal) x1 (ix2 R 0) = BitVec.ofNat 32 n := by
    rw [val_main_v48_apply, ← e47]
    refine congrArg _ (funext fun a => ?_)
    match a with
    | ⟨0, _⟩ => rfl
  have e4 : val_main_call7_v4 (F := Ideal) x1 (ix2 R 0) = BitVec.ofNat 32 n := by
    rw [val_main_call7_v4_apply, val_main_call7_v1_apply, e48, val_main_call7_v0_apply]
    show Scalar.select (IntOp.cmpi .slt _ (BitVec.ofNat 32 0)) _ _ = _
    rw [cmpi_slt_ofNat _ _ (by omega) (by omega), select_ofBool, if_neg (by simp)]
  rw [val_main_call7_v5_apply, ← e4]
  refine congrArg _ (funext fun a => ?_)
  match a with
  | ⟨0, _⟩ => exact Fin.ext (by show (((R.val * 1 + 0) * 1 + 0) / 1) = R.val; omega)
  | ⟨1, _⟩ => rfl

/-- The running sum read there: the sum of as many of the greatest values as there are hard negatives. -/
theorem v50_apply (n : ℕ) (hn : nHard (line x1 R) = n + 1) : val_main_v50 (F := Ideal) x0 x1 (ix1 R)
    = ((∑ k : Fin 32768 with k.val < n + 1, key (line x0 R) (line x1 R) (listing x0 x1 R k) : ℝ) : EReal) := by
  have hl : n + 1 ≤ 32768 := by
    have h : nHard (line x1 R) ≤ 32768 := by unfold nHard nNeg; omega
    omega
  have e5 := call7_v5_apply x1 R hb n hn
  have e11 : val_main_call7_v11 (F := Ideal) x1 (ix3 R 0 0) = 1#1 := by
    rw [val_main_call7_v11_apply, val_main_call7_v7_apply, val_main_call7_v10_apply, e5, val_main_call7_v6_apply, val_main_call7_v9_apply,
      val_main_call7_v8_apply]
    show IntOp.andi (IntOp.cmpi .sge _ (BitVec.ofNat 32 0)) (IntOp.cmpi .sle _ (BitVec.ofNat 32 32767)) = _
    rw [cmpi_sge_ofNat _ _ (by omega) (by omega), cmpi_sle_ofNat _ _ (by omega) (by omega), decide_eq_true (by omega), decide_eq_true (by omega)]
    rfl
  have e12 : val_main_call7_v12 (F := Ideal) x1 (ix2 R 0) = 1#1 := by
    have hr : S128x1x1.Reduces [2] S128x1 := by decide
    unfold val_main_call7_v12
    rw [Host.reduce_eq_fold_single _ _ _ _ hr]
    have hl : hr.lift (ix2 R 0) (0 : Fin 1) = ix3 R 0 0 := by
      funext a
      match a with
      | ⟨0, _⟩ => rfl
      | ⟨1, _⟩ => rfl
      | ⟨2, _⟩ => rfl
    show Finset.fold IntOp.andi (1#1) (fun k : Fin 1 => val_main_call7_v11 (F := Ideal) x1 (hr.lift (ix2 R 0) k)) Finset.univ = _
    rw [show (Finset.univ : Finset (Fin 1)) = {0} from rfl, Finset.fold_singleton, hl, e11]
    rfl
  have e49 : val_main_v49 (F := Ideal) x0 x1 (ix2 R 0)
      = ((∑ k : Fin 32768 with k.val < n + 1, key (line x0 R) (line x1 R) (listing x0 x1 R k) : ℝ) : EReal) := by
    rw [val_main_v49_apply, e12]
    show val_main_call7_v13 (F := Ideal) x0 x1 (ix2 R 0) = _
    unfold val_main_call7_v13
    rw [gather_apply, v44_apply x0 x1 R hb]
    have ei : min (val_main_call7_v5 (F := Ideal) x1 (ix3 R 0 0)).toInt.toNat 32767 = n := by
      rw [e5, toInt_ofNat _ (by omega), Int.toNat_natCast]; omega
    simp only [ei, Nat.lt_succ_iff]
  rw [val_main_v50_apply, ← e49]
  refine congrArg _ (funext fun a => ?_)
  match a with
  | ⟨0, _⟩ => exact Fin.ext (by show R.val / 1 = R.val; omega)
  | ⟨1, _⟩ => rfl

/-- The hard negatives' part of the numerator. -/
theorem v54_apply (T : Finset (Fin 32768)) (hT : IsHard (line x0 R) (line x1 R) T) : val_main_v54 (F := Ideal) x0 x1 (ix1 R)
    = ((1 / 4 * ∑ i ∈ T, val (line x0 R) (line x1 R) i : ℝ) : EReal) := by
  have hl : nHard (line x1 R) ≤ 32768 := by unfold nHard nNeg; omega
  rw [val_main_v54_apply, val_main_v52_apply, v39_apply x1 R hb, val_main_v51_apply]
  show Scalar.select (IntOp.cmpi .sgt _ (BitVec.ofNat 32 0)) _ _ = _
  rw [cmpi_sgt_ofNat _ _ (by omega) (by omega), select_ofBool]
  rcases Nat.eq_zero_or_eq_succ_pred (nHard (line x1 R)) with h | h
  · rw [if_neg (by simp [h]), hT.eq_empty h, Finset.sum_empty, mul_zero, val_main_v53_apply]
    show Ideal.ofBits .f32 0x00000000#32 = _
    simp [Ideal.ofBits, Ideal.ieee]
  · rw [if_pos (by simp only [decide_eq_true_eq]; omega), v50_apply x0 x1 R hb _ h]
    refine congrArg (fun x : ℝ => (x : EReal)) ?_
    rw [sum_prefix (key (line x0 R) (line x1 R)) (listing x0 x1 R) (order_injective _) (fun a b hab => listing_le x0 x1 R hb hab)
      _ (by omega) T (hT.card.trans h), Finset.mul_sum]
    · exact Finset.sum_congr rfl fun i hi => if_neg (hT.neg i hi)
    · intro i hi j hj
      have hi' : key (line x0 R) (line x1 R) i = 1 / 4 * val (line x0 R) (line x1 R) i := if_neg (hT.neg i hi)
      have hv := val_ge (p := line x0 R) (t := line x1 R) i
      have hv0 : (0 : ℝ) ≤ 1 / 2 ^ 60 := by positivity
      rw [hi']
      unfold key
      by_cases h : Pos (line x1 R) j
      · rw [if_pos h]
        have := fill_neg
        linarith
      · rw [if_neg h]
        have h1 := hT.val_apart i hi j hj h
        have h2 : ((1 - 1 / 2 ^ 24 : ℝ)) ^ 2 * val (line x0 R) (line x1 R) i ≤ 1 * val (line x0 R) (line x1 R) i :=
          mul_le_mul_of_nonneg_right (by norm_num) (hv0.trans hv)
        linarith

/-- The reference's weighted loss of a row's positives. -/
theorem v57_apply : val_main_v57 (F := Ideal) x0 x1 (ix1 R) = ((3 / 4 * sumPos (line x0 R) (line x1 R) : ℝ) : EReal) := by
  have h0 : Ideal.ofBits .f32 0x00000000#32 = 0 := by simp [Ideal.ofBits, Ideal.ieee]
  have e : ∀ k : Fin 32768, val_main_v56 (F := Ideal) x0 x1 (ix2 R k)
      = (((if Pos (line x1 R) k then 3 / 4 * val (line x0 R) (line x1 R) k else 0) : ℝ) : EReal) := fun k => by
    rw [val_main_v56_apply, v31_apply x1 R hb, select_ofBool, v29_apply x0 x1 R hb, val_main_v55_apply]
    show (if _ then _ else Ideal.ofBits .f32 0x00000000#32) = _
    by_cases h : Pos (line x1 R) k <;> simp [h, h0]
  have hi : ∀ k : Fin 32768, idx_main_v57 (ix1 R) k = ix2 R k := fun k => by
    funext a
    match a with
    | ⟨0, _⟩ => rfl
    | ⟨1, _⟩ => rfl
  rw [val_main_v57_apply]
  show Ideal.ofBits .f32 0x00000000#32 + _ = _
  rw [h0, zero_add, Finset.sum_congr rfl fun k _ => (congrArg _ (hi k)).trans (e k), sum_coe]
  refine congrArg (fun x : ℝ => (x : EReal)) ?_
  rw [Finset.sum_ite, Finset.sum_const_zero, add_zero, ← Finset.mul_sum]
  rfl

/-- The reference's weighted loss of a row's negatives. -/
theorem v66_apply : val_main_v66 (F := Ideal) x0 x1 (ix1 R) = ((1 / 4 * sumNeg (line x0 R) (line x1 R) : ℝ) : EReal) := by
  have h0 : Ideal.ofBits .f32 0x00000000#32 = 0 := by simp [Ideal.ofBits, Ideal.ieee]
  have e : ∀ k : Fin 32768, val_main_v65 (F := Ideal) x0 x1 (ix2 R k)
      = (((if ¬ Pos (line x1 R) k then 1 / 4 * val (line x0 R) (line x1 R) k else 0) : ℝ) : EReal) := fun k => by
    rw [val_main_v65_apply, v32_apply x1 R hb, select_ofBool, v29_apply x0 x1 R hb, val_main_v64_apply]
    show (if _ then _ else Ideal.ofBits .f32 0x00000000#32) = _
    by_cases h : Pos (line x1 R) k <;> simp [h, h0]
  have hi : ∀ k : Fin 32768, idx_main_v66 (ix1 R) k = ix2 R k := fun k => by
    funext a
    match a with
    | ⟨0, _⟩ => rfl
    | ⟨1, _⟩ => rfl
  rw [val_main_v66_apply]
  show Ideal.ofBits .f32 0x00000000#32 + _ = _
  rw [h0, zero_add, Finset.sum_congr rfl fun k _ => (congrArg _ (hi k)).trans (e k), sum_coe]
  refine congrArg (fun x : ℝ => (x : EReal)) ?_
  rw [Finset.sum_ite, Finset.sum_const_zero, add_zero, ← Finset.mul_sum]
  rfl

/-- A row's loss. -/
theorem v73_apply (T : Finset (Fin 32768)) (hT : IsHard (line x0 R) (line x1 R) T) : val_main_v73 (F := Ideal) x0 x1 (ix1 R)
    = ((rowOut (line x0 R) (line x1 R) T : ℝ) : EReal) := by
  have hp := nPos_le (line x1 R)
  have hl : nHard (line x1 R) ≤ 32768 := by unfold nHard nNeg; omega
  have hn : nNeg (line x1 R) ≤ 32768 := by unfold nNeg; omega
  rw [rowOut_coe, val_main_v73_apply, val_main_v72_apply, val_main_v63_apply, val_main_v70_apply, val_main_v62_apply, val_main_v69_apply,
    val_main_v60_apply, val_main_v59_apply, val_main_v67_apply, val_main_v58_apply, v34_apply x1 R hb, v36_apply x1 R hb, v39_apply x1 R hb,
    v54_apply x0 x1 R hb T hT, v57_apply x0 x1 R hb, v66_apply x0 x1 R hb, val_main_v71_apply, val_main_v61_apply, val_main_v68_apply,
    addi_ofNat, sitofp_ofNat _ (by omega), sitofp_ofNat _ (by omega)]
  show Scalar.select (IntOp.cmpi .sgt _ (BitVec.ofNat 32 0)) (Ideal.div (_ + _) (max _ (Ideal.ofBits .f32 0x3F800000#32)))
    (Ideal.div _ (max _ (Ideal.ofBits .f32 0x3F800000#32))) = _
  rw [cmpi_sgt_ofNat _ _ (by omega) (by omega), select_ofBool, bits_one]

end

/-- The reference's result: the mean over the rows. -/
theorem v75_eq (T : Fin 128 → Finset (Fin 32768)) (hb : ∀ R, Binary (line x1 R)) (hT : ∀ R, IsHard (line x0 R) (line x1 R) (T R)) :
    val_main_v75 (F := Ideal) x0 x1 = fun _ => (((∑ R : Fin 128, rowOut (line x0 R) (line x1 R) (T R)) / 128 : ℝ) : EReal) := by
  funext i
  have h0 : Ideal.ofBits .f32 0x00000000#32 = 0 := by simp [Ideal.ofBits, Ideal.ieee]
  have e : ∑ j : S128.Idx, val_main_v73 (F := Ideal) x0 x1 j = ((∑ R : Fin 128, rowOut (line x0 R) (line x1 R) (T R) : ℝ) : EReal) := by
    rw [← sum_coe, ← Finset.sum_congr rfl fun R _ => v73_apply x0 x1 R (hb R) (T R) (hT R)]
    exact Fintype.sum_equiv ⟨fun j => j 0, ix1, fun j => (eq_ix1 j).symm, fun R => rfl⟩ _ _ fun j => congrArg _ (eq_ix1 j)
  rw [val_main_v75_apply, val_main_v74_apply, e]
  show Ideal.div (Ideal.ofBits .f32 0x00000000#32 + _) (Ideal.ofBits .f32 0x43000000#32) = _
  rw [h0, zero_add, bits_128, Ideal.div_coe (by norm_num), ← EReal.coe_mul]
  refine congrArg (fun x : ℝ => (x : EReal)) ?_
  ring

end Cert.ReferenceIdeal.Hand
-- ==== Proof.Untied.lean ====
/-
  What the precondition says of a row: its targets are zeros and ones, and the predictions of its hard negatives are
  set apart from those of its other negatives.
-/
module

public import proofs.«01_k».proof.Proof.Sorted
public import proofs.«01_k».proof.Pre_cut_untied
public import Idealize.ShloMosaic.Lib.Pipeline.Value

@[expose] public section

set_option maxRecDepth 16384

noncomputable section

namespace Cert.Row

open Idealize.ShloMosaic

variable (p t : Fin 32768 → EReal)

/-- A negative's clipped prediction; `-1`, below all of these, for a positive. -/
def mark (k : Fin 32768) : ℝ := if Pos t k then -1 else clip (p k)

/-- The greatest `nHard` marks belong to a set of hard negatives, when the last of them is greater than the next
    mark by the factor `1 - 2^-24`. -/
theorem exists_hard (σ : Fin 32768 → Fin 32768) (hσ : Function.Injective σ) (hd : ∀ a b, a ≤ b → mark p t (σ b) ≤ mark p t (σ a))
    (hc : ∀ a b : Fin 32768, a.val + 1 = nHard t → b.val = nHard t → mark p t (σ b) ≤ mark p t (σ a) * (1 - 1 / 2 ^ 24)) :
    ∃ T, IsHard p t T := by
  have hcard : ∀ n : ℕ, n ≤ 32768 → (Finset.univ.filter fun k : Fin 32768 => k.val < n).card = n := fun n hn => by
    rw [Fin.card_filter_val_lt]; omega
  have hn : nHard t ≤ nNeg t := min_le_right _ _
  have hm : nNeg t ≤ 32768 := by unfold nNeg; omega
  have hneg : ∀ a : Fin 32768, a.val < nHard t → ¬ Pos t (σ a) := by
    intro a ha hpos
    have hsub : (Finset.univ.filter fun i => ¬ Pos t i) ⊆ (Finset.univ.filter fun k : Fin 32768 => k.val < a.val).image σ := by
      intro i hi
      obtain ⟨b, rfl⟩ := Finite.surjective_of_injective hσ i
      refine Finset.mem_image.2 ⟨b, Finset.mem_filter.2 ⟨Finset.mem_univ _, ?_⟩, rfl⟩
      by_contra hab
      have h1 := hd a b (Fin.le_def.2 (not_lt.1 hab))
      have hi' := (Finset.mem_filter.1 hi).2
      unfold mark at h1
      rw [if_pos hpos, if_neg hi'] at h1
      have := clip_pos (p (σ b))
      linarith
    have := Finset.card_le_card hsub
    rw [card_neg, Finset.card_image_of_injective _ hσ, hcard _ (by omega)] at this
    omega
  refine ⟨(Finset.univ.filter fun k : Fin 32768 => k.val < nHard t).image σ, ?_, ?_, ?_⟩
  · rw [Finset.card_image_of_injective _ hσ, hcard _ (by omega)]
  · intro i hi
    obtain ⟨a, ha, rfl⟩ := Finset.mem_image.1 hi
    exact hneg a (Finset.mem_filter.1 ha).2
  · intro i hi j hj hjn
    obtain ⟨a, ha, rfl⟩ := Finset.mem_image.1 hi
    have ha' := (Finset.mem_filter.1 ha).2
    obtain ⟨b, rfl⟩ := Finite.surjective_of_injective hσ j
    have hb : nHard t ≤ b.val := by
      by_contra hb
      exact hj (Finset.mem_image.2 ⟨b, Finset.mem_filter.2 ⟨Finset.mem_univ _, not_le.1 hb⟩, rfl⟩)
    have hbl := b.isLt
    have h1 := hd ⟨nHard t, by omega⟩ b (Fin.le_def.2 hb)
    have h2 := hc ⟨nHard t - 1, by omega⟩ ⟨nHard t, by omega⟩ (by simp only; omega) rfl
    have h3 := hd a ⟨nHard t - 1, by omega⟩ (Fin.le_def.2 (by simp only; omega))
    have h4 : mark p t (σ a) = clip (p (σ a)) := if_neg (hneg a ha')
    have h5 : mark p t (σ b) = clip (p (σ b)) := if_neg hjn
    rw [h4] at h3
    rw [h5] at h1
    have h6 := mul_le_mul_of_nonneg_right h3 (by norm_num : (0 : ℝ) ≤ 1 - 1 / 2 ^ 24)
    linarith

end Cert.Row

namespace Cert.Pre_cut_untied.Hand

open Cert.Pre_cut_untied Cert.Row
open Idealize.ShloMosaic
open Facts

variable [Facts] (x0 x1 : FVec Ideal S128x32768 .f32) (R : Fin 128)

/-- A row of an array. -/
def line (x : FVec Ideal S128x32768 .f32) (R : Fin 128) : Fin 32768 → EReal := fun k => x (ix2 R k)

/-- A number at every place of an array. -/
def all (c : BitVec 32) : FVec Ideal S128x32768 .f32 := broadcastInDim S128x32768 ![] bcast_S_S128x32768 (constant S_ .f32 c)

/-- A place of the array that holds one number. -/
theorem all_apply (c : BitVec 32) (k : Fin 32768) : all c (ix2 R k) = Ideal.ofBits .f32 c := rfl

/-- The precondition's test that a target is zero or one. -/
def binary : IVec S128x32768 1 := ori (cmpf .oeq x1 (all 0x00000000#32)) (cmpf .oeq x1 (all 0x3F800000#32))

/-- The precondition's mask of the positives. -/
def isPos : IVec S128x32768 1 := cmpf .oge x1 (all 0x3F000000#32)

/-- What the precondition sorts: a negative's clipped prediction, and minus one at a positive. -/
def marks : FVec Ideal S128x32768 .f32 := select (isPos x1) (all 0xBF800000#32)
  (minimumf (maximumf x0 (all 0x358637BD#32)) (subf (all 0x3F800000#32) (all 0x358637BD#32)))

/-- The marks of each row, the greatest first. -/
def ordered : FVec Ideal S128x32768 .f32 :=
  Host.negf (Host.sort S128x32768 1 (comparator_f32_d1 (F := Ideal)) (Host.negf (marks x0 x1)))

/-- Each row turned by one place, so that each place holds the mark that follows. -/
def following (x : FVec Ideal S128x32768 .f32) : FVec Ideal S128x32768 .f32 :=
  concatenate S128x32768 1 [⟨S128x32767, extractStridedSlice S128x32767 ![0, 1] x slices_S128x32768_S128x32767_0_1⟩,
    ⟨S128x1, extractStridedSlice S128x1 ![0, 0] x slices_S128x32768_S128x1_0_0⟩] concatenates_S128x32767_S128x1_S128x32768_d1

/-- The precondition from its parts. -/
theorem fn_eq : fn (F := Ideal) x0 x1 = fn_part1 (F := Ideal) (binary x1) (isPos x1) (ordered x0 x1) (following (ordered x0 x1)) := rfl

/-- The precondition at a place, spelt out. -/
theorem part_apply (b q : IVec S128x32768 1) (s f : FVec Ideal S128x32768 .f32) (k : Fin 32768) :
    fn_part1 (F := Ideal) b q s f (ix2 R k)
      = IntOp.andi (b (ix2 R k)) (IntOp.ori
          (IntOp.cmpi .ne (IntOp.addi (BitVec.ofNat 32 k.val) (BitVec.ofNat 32 1))
            (IntOp.minsi (IntOp.muli (Host.reduce IntOp.addi (extui 32 q natLt_1_32) (constantI S_ 32 0#32) reducesTo_S128x32768_S128_d1 h_S_ (ix1 R)) (BitVec.ofNat 32 10))
              (IntOp.subi (BitVec.ofNat 32 32768) (Host.reduce IntOp.addi (extui 32 q natLt_1_32) (constantI S_ 32 0#32) reducesTo_S128x32768_S128_d1 h_S_ (ix1 R)))))
          (Ideal.cmp .ole (f (ix2 R k)) (s (ix2 R k) * Ideal.ofBits .f32 0x3F7FFFFF#32))) := by
  have hbc : ∀ v : IVec S128 32, broadcastInDim S128x32768 ![0] bcast_S128_S128x32768_0 v (ix2 R k) = v (ix1 R) := fun v =>
    broadcastInDim_apply _ bcast_S128_S128x32768_0 v (ix2 R k) (ix1 R) (fun a => match a with
      | ⟨0, _⟩ => rfl)
  exact congrArg (fun w => IntOp.andi (b (ix2 R k)) (IntOp.ori
      (IntOp.cmpi .ne (IntOp.addi (BitVec.ofNat 32 k.val) (BitVec.ofNat 32 1)) w)
      (Ideal.cmp .ole (f (ix2 R k)) (s (ix2 R k) * Ideal.ofBits .f32 0x3F7FFFFF#32))))
    (hbc (minsi (muli (Host.reduce IntOp.addi (extui 32 q natLt_1_32) (constantI S_ 32 0#32) reducesTo_S128x32768_S128_d1 h_S_)
        (broadcastInDim S128 ![] bcast_S_S128 (constantI S_ 32 10#32)))
      (subi (broadcastInDim S128 ![] bcast_S_S128 (constantI S_ 32 32768#32))
        (Host.reduce IntOp.addi (extui 32 q natLt_1_32) (constantI S_ 32 0#32) reducesTo_S128x32768_S128_d1 h_S_))))

/-- The mark that follows a place is that of the next place. -/
theorem following_apply (x : FVec Ideal S128x32768 .f32) (a b : Fin 32768) (h : a.val + 1 = b.val) :
    following x (ix2 R a) = x (ix2 R b) := by
  have hb := b.isLt
  unfold following
  rw [concatenate_pair_apply_left (s₁ := S128x32767) (s₂ := S128x1) (t := S128x32768) 1 _ _ _ _ rfl
    (ix2 R (⟨a.val, by omega⟩ : Fin 32767)) (fun c => match c with
      | ⟨0, _⟩ => rfl
      | ⟨1, _⟩ => rfl)]
  show x _ = x _
  refine congrArg x (funext fun c => ?_)
  match c with
  | ⟨0, _⟩ => exact Fin.ext (by show 0 + R.val = R.val; omega)
  | ⟨1, _⟩ => exact Fin.ext (by show 1 + a.val = b.val; omega)

/-- The sort's comparison is `<` of the extended reals. -/
theorem comparator_apply (l r : EReal) : comparator_f32_d1 (F := Ideal) l r = BitVec.ofBool (decide (l < r)) := by
  have hz : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := normalised
  have e : comparator_f32_d1 (F := Ideal) l r = Ideal.cmp .olt
    (Scalar.select (Ideal.cmp .une l l) (Ideal.ofBits .f32 0x7FC00000#32)
      (Scalar.select (Ideal.cmp .oeq l (Ideal.ofBits .f32 0x00000000#32)) (Ideal.ofBits .f32 0x00000000#32) l))
    (Scalar.select (Ideal.cmp .une r r) (Ideal.ofBits .f32 0x7FC00000#32)
      (Scalar.select (Ideal.cmp .oeq r (Ideal.ofBits .f32 0x00000000#32)) (Ideal.ofBits .f32 0x00000000#32) r)) := rfl
  rw [e, hz, hz]
  rfl

/-- A conjunction of bits is one only if both are. -/
theorem andi_eq_one {a b : BitVec 1} (h : IntOp.andi a b = 1#1) : a = 1#1 ∧ b = 1#1 := by
  revert a b; decide

section
variable (H : fn (F := Ideal) x0 x1 = fun _ => 1#1)
include H

/-- The targets are zeros and ones. -/
theorem binary_of_pre : Binary (line x1 R) := by
  intro k
  have h := congrFun H (ix2 R k)
  rw [fn_eq, part_apply] at h
  have h1 := (andi_eq_one h).1
  have e : binary x1 (ix2 R k) = IntOp.ori (BitVec.ofBool (decide (x1 (ix2 R k) = Ideal.ofBits .f32 0x00000000#32)))
    (BitVec.ofBool (decide (x1 (ix2 R k) = Ideal.ofBits .f32 0x3F800000#32))) := rfl
  have h0 : Ideal.ofBits .f32 0x00000000#32 = 0 := by simp [Ideal.ofBits, Ideal.ieee]
  rw [e, ori_ofBool, bits_one, h0] at h1
  by_cases ha : x1 (ix2 R k) = 0
  · exact Or.inl ha
  · by_cases hb : x1 (ix2 R k) = 1
    · exact Or.inr hb
    · rw [decide_eq_false ha, decide_eq_false hb] at h1
      exact absurd h1 (by decide)

/-- The mask of the positives at a place. -/
theorem isPos_apply (k : Fin 32768) : isPos x1 (ix2 R k) = BitVec.ofBool (decide (Pos (line x1 R) k)) := by
  have e : isPos x1 (ix2 R k) = BitVec.ofBool (decide (Ideal.ofBits .f32 0x3F000000#32 ≤ x1 (ix2 R k))) := rfl
  rw [e]
  exact congrArg BitVec.ofBool (decide_eq_decide.2 (half_le_iff (binary_of_pre x0 x1 R H k)))

/-- The mark at a place. -/
theorem marks_apply (k : Fin 32768) : marks x0 x1 (ix2 R k) = ((mark (line x0 R) (line x1 R) k : ℝ) : EReal) := by
  have e : marks x0 x1 (ix2 R k) = Scalar.select (isPos x1 (ix2 R k)) (Ideal.ofBits .f32 0xBF800000#32)
    (min (max (x0 (ix2 R k)) (Ideal.ofBits .f32 0x358637BD#32)) (Ideal.ofBits .f32 0x3F800000#32 - Ideal.ofBits .f32 0x358637BD#32)) := rfl
  rw [e, isPos_apply x0 x1 R H, select_ofBool, bits_one, one_sub_lo, bits_lo, bits_neg_one, max_comm, min_comm, ← clip_coe]
  unfold mark
  by_cases h : Pos (line x1 R) k
  · rw [if_pos (decide_eq_true h), if_pos h]
  · rw [if_neg (by simp [h]), if_neg h]; rfl

/-- The order in which the precondition lists a row's marks. -/
def listing : Fin 32768 → Fin 32768 := order fun k => Host.negf (marks x0 x1) (ix2 R k)

/-- The sorted marks: at each place the mark that the listing takes there. -/
theorem ordered_apply (k : Fin 32768) : ordered x0 x1 (ix2 R k) = ((mark (line x0 R) (line x1 R) (listing x0 x1 R k) : ℝ) : EReal) := by
  have e : ordered x0 x1 (ix2 R k) = -Host.sort S128x32768 1 (comparator_f32_d1 (F := Ideal)) (Host.negf (marks x0 x1)) (ix2 R k) := rfl
  rw [e, sort_apply _ comparator_apply, ← marks_apply x0 x1 R H]
  exact neg_neg _

/-- Along the listing the marks do not grow. -/
theorem listing_le {a b : Fin 32768} (h : a ≤ b) :
    mark (line x0 R) (line x1 R) (listing x0 x1 R b) ≤ mark (line x0 R) (line x1 R) (listing x0 x1 R a) := by
  have e : ∀ k, Host.negf (marks x0 x1) (ix2 R k) = -((mark (line x0 R) (line x1 R) k : ℝ) : EReal) := fun k => by
    rw [← marks_apply x0 x1 R H]; rfl
  have h1 : Host.negf (marks x0 x1) (ix2 R (listing x0 x1 R a)) ≤ Host.negf (marks x0 x1) (ix2 R (listing x0 x1 R b)) :=
    order_le (fun k => Host.negf (marks x0 x1) (ix2 R k)) h
  rw [e, e] at h1
  exact EReal.coe_le_coe_iff.1 (EReal.neg_le_neg_iff.1 h1)

/-- Every row has its hard negatives, set apart from its other negatives. -/
theorem hard_of_pre : ∃ T, IsHard (line x0 R) (line x1 R) T := by
  refine exists_hard _ _ (listing x0 x1 R) (order_injective _) (fun a b h => listing_le x0 x1 R H h) ?_
  intro a b ha hb
  have hp := nPos_le (line x1 R)
  have hal := a.isLt
  have h := congrFun H (ix2 R a)
  rw [fn_eq, part_apply] at h
  have h1 := (andi_eq_one h).2
  rw [count_apply (isPos x1) natLt_1_32 reducesTo_S128x32768_S128_d1 h_S_ R _ (isPos_apply x0 x1 R H), muli_ofNat,
    following_apply R _ a b (by omega), ordered_apply x0 x1 R H, ordered_apply x0 x1 R H, addi_ofNat] at h1
  change IntOp.ori (IntOp.cmpi .ne (BitVec.ofNat 32 (a.val + 1)) (IntOp.minsi (BitVec.ofNat 32 (nPos (line x1 R) * 10))
    (IntOp.subi (BitVec.ofNat 32 32768) (BitVec.ofNat 32 (nPos (line x1 R)))))) _ = _ at h1
  rw [subi_ofNat _ _ hp, minsi_ofNat _ _ (by omega) (by omega)] at h1
  change IntOp.ori (IntOp.cmpi .ne (BitVec.ofNat 32 (a.val + 1)) (BitVec.ofNat 32 (nHard (line x1 R)))) (BitVec.ofBool (decide (_ ≤ _))) = _ at h1
  rw [cmpi_ne_ofNat _ _ (by omega) (by omega), decide_eq_false (not_not.2 ha), ori_ofBool, Bool.false_or, bits_apart, ← EReal.coe_mul] at h1
  by_contra hn
  rw [decide_eq_false fun hle => hn (EReal.coe_le_coe_iff.1 hle)] at h1
  exact absurd h1 (by decide)

end

end Cert.Pre_cut_untied.Hand
-- ==== Proof.lean ====
/-
  The proof of `Cert.Claim`: the frames of the kernel as traced and as idealized, the frame of the reference, and the
  equality of the idealized kernel's result and the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_cut_untied
public import proofs.«01_k».proof.Proof.KernelFrame
public import proofs.«01_k».proof.Proof.KernelRun
public import proofs.«01_k».proof.Proof.RefRows
public import proofs.«01_k».proof.Proof.Untied
public import proofs.«01_k».proof.Proof.Frame
public import Idealize.ShloMosaic.Lib.Quiescent
public import Idealize.ShloMosaic.Adequacy
public import Idealize.ShloMosaic.Init

@[expose] public section

noncomputable section

namespace Cert.Proof

open Idealize.ShloMosaic Idealize.SL.Sem

/-- The kernel as traced runs, leaves its arguments unchanged and every counter at zero. -/
theorem frame_kernel : Cert.quiescent_Kernel (hKernel := Cert.Kernel.Gen.facts) :=
  fun m ρ _ => Cert.Kernel.Hand.frame_any (F := Bits) m ρ

/-- The idealized kernel runs, leaves its arguments unchanged and every counter at zero. -/
theorem frame_kernelIdeal : Cert.quiescent_KernelIdeal (hKernelIdeal := Cert.KernelIdeal.Gen.facts) :=
  fun m ρ _ => Cert.KernelIdeal.Hand.frame_any (F := Ideal) m ρ

/-- The reference runs, leaves its arguments unchanged and every counter at zero: it has no semaphore. -/
theorem frame_referenceIdeal : Cert.quiescent_ReferenceIdeal (hReferenceIdeal := Cert.ReferenceIdeal.Gen.facts) :=
  fun m ρ _ => (θ_run _ _ _).mono (fun r h => ⟨fun c => (h c).2, sem_eq_zero_of_no_sems (by decide) r.2⟩)
    (Cert.ReferenceIdeal.Value.run (F := Ideal) m ρ)

/-- The same two frames, stated under the precondition. -/
theorem frame_kernelIdeal_pre : Cert.quiescent_KernelIdeal_pre_cut_untied (hKernelIdeal := Cert.KernelIdeal.Gen.facts)
    (hPre_cut_untied := Cert.Pre_cut_untied.Gen.facts) :=
  fun m ρ _ => frame_kernelIdeal m ρ trivial

/-- The frame of the ideal reference, under the precondition. -/
theorem frame_referenceIdeal_pre : Cert.quiescent_ReferenceIdeal_pre_cut_untied (hReferenceIdeal := Cert.ReferenceIdeal.Gen.facts)
    (hPre_cut_untied := Cert.Pre_cut_untied.Gen.facts) :=
  fun m ρ _ => frame_referenceIdeal m ρ trivial

/-- The idealized kernel and the reference end with the same number: each row's hard negatives are one set, which the
    kernel finds by its search over thresholds and the reference by its sort; both results are the mean of the rows'
    losses over these sets. -/
theorem algebraic : Cert.algebraic_KernelIdeal_ReferenceIdeal_pre_cut_untied (hKernelIdeal := Cert.KernelIdeal.Gen.facts)
    (hReferenceIdeal := Cert.ReferenceIdeal.Gen.facts) (hPre_cut_untied := Cert.Pre_cut_untied.Gen.facts) := by
  intro m ρ m' ρ' hpre hargs
  letI := Cert.Pre_cut_untied.Gen.facts
  have hb : ∀ c R, Cert.Row.Binary (Cert.KernelIdeal.Hand.line (Cert.KernelIdeal.Hand.targets m c) R) := fun c R =>
    Cert.Pre_cut_untied.Hand.binary_of_pre (Cert.KernelIdeal.Hand.preds m c) (Cert.KernelIdeal.Hand.targets m c) R (hpre c)
  have hh : ∀ c R, ∃ T, Cert.Row.IsHard (Cert.KernelIdeal.Hand.line (Cert.KernelIdeal.Hand.preds m c) R)
      (Cert.KernelIdeal.Hand.line (Cert.KernelIdeal.Hand.targets m c) R) T := fun c R =>
    Cert.Pre_cut_untied.Hand.hard_of_pre (Cert.KernelIdeal.Hand.preds m c) (Cert.KernelIdeal.Hand.targets m c) R (hpre c)
  choose T hT using hh
  refine ⟨fun c _ => ((Cert.KernelIdeal.Hand.meanLoss (Cert.KernelIdeal.Hand.preds m c) (Cert.KernelIdeal.Hand.targets m c) (T c) : ℝ) : EReal),
    Cert.KernelIdeal.Hand.run_value m ρ hb T hT, ?_⟩
  refine (θ_run _ _ _).mono (fun r h c => ⟨(h c).1.trans ?_, (h c).2⟩) (Cert.ReferenceIdeal.Value.run (F := Ideal) m' ρ')
  rw [Cert.ReferenceIdeal.Read.val_main_v75_eq, (hargs c).1, (hargs c).2]
  exact Cert.ReferenceIdeal.Hand.v75_eq (Cert.KernelIdeal.Hand.preds m c) (Cert.KernelIdeal.Hand.targets m c) (T c) (hb c) (hT c)

/-- Everything the certificate claims. -/
theorem claim : Cert.Claim := ⟨Cert.Kernel.Gen.facts, Cert.KernelIdeal.Gen.facts, Cert.ReferenceIdeal.Gen.facts, Cert.Pre_cut_untied.Gen.facts,
  frame_kernel, frame_kernelIdeal, frame_kernelIdeal_pre, frame_referenceIdeal, frame_referenceIdeal_pre, trivial, algebraic⟩

end Cert.Proof

end
